-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 4096, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 4096, 4, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 4096, 4, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 4096, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .bf16) (main_arg1 : FVec F S512x256 .bf16) (main_arg2 : FVec F S2x256x4x64 .bf16) (main_arg3 : FVec F S2x256x4x64 .bf16) (main_arg4 : FVec F S256x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x4x64 .bf16 := Host.absf main_arg2
  let main_cst_2 : FVec F S_ .bf16 := constant S_ .bf16 0x7F80#16
  let main_v10 : FVec F S2x256x4x64 .bf16 := broadcastInDim S2x256x4x64 ![] bcast_S_S2x256x4x64 main_cst_2
  let main_v11 : IVec S2x256x4x64 1 := cmpf .olt main_v9 main_v10
  let main_c_3 : IVec S_ 1 := constantI S_ 1 1#1
  let main_v12 : IVec S_ 1 := (fun x v => Host.reduce IntOp.andi x v reducesTo_S2x256x4x64_S_d0_1_2_3 h_S_) main_v11 main_c_3
  let main_v13 : IVec S_ 1 := andi main_v8 main_v12
  main_v13
-- ==== Pre_finite_ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x4096x4x64 : S_.BroadcastsInDim S2x4096x4x64 (![] : Fin 0 → Fin S2x4096x4x64.rank)
  reducesTo_S2x4096x4x64_S_d0_1_2_3 : S2x4096x4x64.ReducesTo [0, 1, 2, 3] S_

variable [Facts]

def fn {F : FTy → Type} [FloatOps F] (main_arg0 : FVec F S2x4096x512 .bf16) (main_arg1 : FVec F S512x256 .bf16) (main_arg2 : FVec F S2x4096x4x64 .bf16) (main_arg3 : FVec F S2x4096x4x64 .bf16) (main_arg4 : FVec F S256x512 .bf16) : IVec S_ 1 :=
  let main_v0 : FVec F S2x4096x512 .bf16 := Host.absf main_arg0
  let main_cst : FVec F S_ .bf16 := constant S_ .bf16 0x7F80#16
  let main_v1 : FVec F S2x4096x512 .bf16 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x4096x4x64 .bf16 := Host.absf main_arg2
  let main_cst_2 : FVec F S_ .bf16 := constant S_ .bf16 0x7F80#16
  let main_v10 : FVec F S2x4096x4x64 .bf16 := broadcastInDim S2x4096x4x64 ![] bcast_S_S2x4096x4x64 main_cst_2
  let main_v11 : IVec S2x4096x4x64 1 := cmpf .olt main_v9 main_v10
  let main_c_3 : IVec S_ 1 := constantI S_ 1 1#1
  let main_v12 : IVec S_ 1 := (fun x v => Host.reduce IntOp.andi x v reducesTo_S2x4096x4x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S9x4x4x256x64 : Shape := ⟨5, ![9, 4, 4, 256, 64]⟩
abbrev S8x4x4x256x64 : Shape := ⟨5, ![8, 4, 4, 256, 64]⟩
abbrev S8x4 : Shape := ⟨2, ![8, 4]⟩
abbrev S7x4 : Shape := ⟨2, ![7, 4]⟩
abbrev S_ : Shape := ⟨0, ![]⟩
abbrev S2x4x256x64 : Shape := ⟨4, ![2, 4, 256, 64]⟩
abbrev S1x2x4x256x64 : Shape := ⟨5, ![1, 2, 4, 256, 64]⟩
abbrev S1x256x512 : Shape := ⟨3, ![1, 256, 512]⟩
abbrev S256x256 : Shape := ⟨2, ![256, 256]⟩
abbrev S256x4x64 : Shape := ⟨3, ![256, 4, 64]⟩
abbrev S4x256x64 : Shape := ⟨3, ![4, 256, 64]⟩
abbrev S1x4x256x64 : Shape := ⟨4, ![1, 4, 256, 64]⟩
abbrev S8x256x64 : Shape := ⟨3, ![8, 256, 64]⟩
abbrev S1x1 : Shape := ⟨2, ![1, 1]⟩
abbrev S1x1x4x256x64 : Shape := ⟨5, ![1, 1, 4, 256, 64]⟩
abbrev S8x256x1 : Shape := ⟨3, ![8, 256, 1]⟩
abbrev S1x256x256 : Shape := ⟨3, ![1, 256, 256]⟩
abbrev S8x256x256 : Shape := ⟨3, ![8, 256, 256]⟩
abbrev S8x256 : Shape := ⟨2, ![8, 256]⟩

abbrev nBuf : Space → Nat
  | .hbm => 6
  | .vmem => 8
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x4x64, .bf16⟩
  | .hbm, ⟨3, _⟩ => ⟨S2x256x4x64, .bf16⟩
  | .hbm, ⟨4, _⟩ => ⟨S256x512, .bf16⟩
  | .hbm, ⟨5, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x4x64, .bf16⟩
  | .local _ .vmem, ⟨3, _⟩ => ⟨S2x256x4x64, .bf16⟩
  | .local _ .vmem, ⟨4, _⟩ => ⟨S256x512, .bf16⟩
  | .local _ .vmem, ⟨5, _⟩ => ⟨S2x256x512, .f32⟩
  | .local _ .vmem, ⟨6, _⟩ => ⟨S9x4x4x256x64, .bf16⟩
  | .local _ .vmem, ⟨7, _⟩ => ⟨S8x4x4x256x64, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  (ofTc nBuf bufTy 1 126 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_69 : BitVec 32 := 1#32
  let v107 : BitVec 32 := Scalar.muli v7 c1_i32_69
  let v108 : BitVec 32 := Scalar.addi c0_i32_70 v107
  v108.toNat
def k0_dev4 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_85 : BitVec 32 := 1#32
  let v117 : BitVec 32 := Scalar.muli v7 c1_i32_85
  let v118 : BitVec 32 := Scalar.addi c0_i32_86 v117
  v118.toNat
def k0_dev5 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_101 : BitVec 32 := 1#32
  let v127 : BitVec 32 := Scalar.muli v7 c1_i32_101
  let v128 : BitVec 32 := Scalar.addi c0_i32_102 v127
  v128.toNat
def k0_dev6 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_116 : BitVec 32 := 1#32
  let v137 : BitVec 32 := Scalar.muli v7 c1_i32_116
  let v138 : BitVec 32 := Scalar.addi c0_i32_117 v137
  v138.toNat
def k0_dev7 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_132 : BitVec 32 := 1#32
  let v147 : BitVec 32 := Scalar.muli v5 c1_i32_132
  let v148 : BitVec 32 := Scalar.addi c0_i32_133 v147
  v148.toNat
def k0_dev8 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_148 : BitVec 32 := 1#32
  let v157 : BitVec 32 := Scalar.muli v5 c1_i32_148
  let v158 : BitVec 32 := Scalar.addi c0_i32_149 v157
  v158.toNat
def k0_dev9 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_164 : BitVec 32 := 1#32
  let v167 : BitVec 32 := Scalar.muli v5 c1_i32_164
  let v168 : BitVec 32 := Scalar.addi c0_i32_165 v167
  v168.toNat
def k0_dev10 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_180 : BitVec 32 := 1#32
  let v177 : BitVec 32 := Scalar.muli v5 c1_i32_180
  let v178 : BitVec 32 := Scalar.addi c0_i32_181 v177
  v178.toNat
def k0_dev11 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_227 : BitVec 32 := 1#32
  let v214 : BitVec 32 := Scalar.muli v7 c1_i32_227
  let v215 : BitVec 32 := Scalar.addi c0_i32_228 v214
  v215.toNat
def k0_dev12 (d0 : Dev nD) : Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_259 : BitVec 32 := 1#32
  let v232 : BitVec 32 := Scalar.muli v5 c1_i32_259
  let v233 : BitVec 32 := Scalar.addi c0_i32_260 v232
  v233.toNat
def k0_dev13 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_291 : BitVec 32 := 1#32
  let v250 : BitVec 32 := Scalar.muli v7 c1_i32_291
  let v251 : BitVec 32 := Scalar.addi c0_i32_292 v250
  v251.toNat
def k0_dev14 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_323 : BitVec 32 := 1#32
  let v268 : BitVec 32 := Scalar.muli v5 c1_i32_323
  let v269 : BitVec 32 := Scalar.addi c0_i32_324 v268
  v269.toNat
def k0_dev15 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_355 : BitVec 32 := 1#32
  let v286 : BitVec 32 := Scalar.muli v7 c1_i32_355
  let v287 : BitVec 32 := Scalar.addi c0_i32_356 v286
  v287.toNat
def k0_dev16 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_387 : BitVec 32 := 1#32
  let v304 : BitVec 32 := Scalar.muli v5 c1_i32_387
  let v305 : BitVec 32 := Scalar.addi c0_i32_388 v304
  v305.toNat
def k0_dev17 (d0 : Dev nD) : Nat :=
  let c0_i32_420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_419 : BitVec 32 := 1#32
  let v322 : BitVec 32 := Scalar.muli v7 c1_i32_419
  let v323 : BitVec 32 := Scalar.addi c0_i32_420 v322
  v323.toNat
def k0_dev18 (d0 : Dev nD) : Nat :=
  let c0_i32_452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_451 : BitVec 32 := 1#32
  let v340 : BitVec 32 := Scalar.muli v5 c1_i32_451
  let v341 : BitVec 32 := Scalar.addi c0_i32_452 v340
  v341.toNat
def k0_dev19 (d0 : Dev nD) : Nat :=
  let c0_i32_637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_636 : BitVec 32 := 1#32
  let v443 : BitVec 32 := Scalar.muli v7 c1_i32_636
  let v444 : BitVec 32 := Scalar.addi c0_i32_637 v443
  v444.toNat
def k0_dev20 (d0 : Dev nD) : Nat :=
  let c0_i32_669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_668 : BitVec 32 := 1#32
  let v461 : BitVec 32 := Scalar.muli v5 c1_i32_668
  let v462 : BitVec 32 := Scalar.addi c0_i32_669 v461
  v462.toNat
def k0_dev21 (d0 : Dev nD) : Nat :=
  let c0_i32_701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_700 : BitVec 32 := 1#32
  let v479 : BitVec 32 := Scalar.muli v7 c1_i32_700
  let v480 : BitVec 32 := Scalar.addi c0_i32_701 v479
  v480.toNat
def k0_dev22 (d0 : Dev nD) : Nat :=
  let c0_i32_733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_732 : BitVec 32 := 1#32
  let v497 : BitVec 32 := Scalar.muli v5 c1_i32_732
  let v498 : BitVec 32 := Scalar.addi c0_i32_733 v497
  v498.toNat
def k0_dev23 (d0 : Dev nD) : Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_764 : BitVec 32 := 1#32
  let v515 : BitVec 32 := Scalar.muli v7 c1_i32_764
  let v516 : BitVec 32 := Scalar.addi c0_i32_765 v515
  v516.toNat
def k0_dev24 (d0 : Dev nD) : Nat :=
  let c0_i32_797 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_796 : BitVec 32 := 1#32
  let v533 : BitVec 32 := Scalar.muli v5 c1_i32_796
  let v534 : BitVec 32 := Scalar.addi c0_i32_797 v533
  v534.toNat
def k0_dev25 (d0 : Dev nD) : Nat :=
  let c0_i32_829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_828 : BitVec 32 := 1#32
  let v551 : BitVec 32 := Scalar.muli v7 c1_i32_828
  let v552 : BitVec 32 := Scalar.addi c0_i32_829 v551
  v552.toNat
def k0_dev26 (d0 : Dev nD) : Nat :=
  let c0_i32_861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_860 : BitVec 32 := 1#32
  let v569 : BitVec 32 := Scalar.muli v5 c1_i32_860
  let v570 : BitVec 32 := Scalar.addi c0_i32_861 v569
  v570.toNat
def k0_dev27 (d0 : Dev nD) : Nat :=
  let c0_i32_1045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1044 : BitVec 32 := 1#32
  let v672 : BitVec 32 := Scalar.muli v7 c1_i32_1044
  let v673 : BitVec 32 := Scalar.addi c0_i32_1045 v672
  v673.toNat
def k0_dev28 (d0 : Dev nD) : Nat :=
  let c0_i32_1077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1076 : BitVec 32 := 1#32
  let v690 : BitVec 32 := Scalar.muli v5 c1_i32_1076
  let v691 : BitVec 32 := Scalar.addi c0_i32_1077 v690
  v691.toNat
def k0_dev29 (d0 : Dev nD) : Nat :=
  let c0_i32_1109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1108 : BitVec 32 := 1#32
  let v708 : BitVec 32 := Scalar.muli v7 c1_i32_1108
  let v709 : BitVec 32 := Scalar.addi c0_i32_1109 v708
  v709.toNat
def k0_dev30 (d0 : Dev nD) : Nat :=
  let c0_i32_1141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1140 : BitVec 32 := 1#32
  let v726 : BitVec 32 := Scalar.muli v5 c1_i32_1140
  let v727 : BitVec 32 := Scalar.addi c0_i32_1141 v726
  v727.toNat
def k0_dev31 (d0 : Dev nD) : Nat :=
  let c0_i32_1173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1172 : BitVec 32 := 1#32
  let v744 : BitVec 32 := Scalar.muli v7 c1_i32_1172
  let v745 : BitVec 32 := Scalar.addi c0_i32_1173 v744
  v745.toNat
def k0_dev32 (d0 : Dev nD) : Nat :=
  let c0_i32_1205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1204 : BitVec 32 := 1#32
  let v762 : BitVec 32 := Scalar.muli v5 c1_i32_1204
  let v763 : BitVec 32 := Scalar.addi c0_i32_1205 v762
  v763.toNat
def k0_dev33 (d0 : Dev nD) : Nat :=
  let c0_i32_1237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1236 : BitVec 32 := 1#32
  let v780 : BitVec 32 := Scalar.muli v7 c1_i32_1236
  let v781 : BitVec 32 := Scalar.addi c0_i32_1237 v780
  v781.toNat
def k0_dev34 (d0 : Dev nD) : Nat :=
  let c0_i32_1269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1268 : BitVec 32 := 1#32
  let v798 : BitVec 32 := Scalar.muli v5 c1_i32_1268
  let v799 : BitVec 32 := Scalar.addi c0_i32_1269 v798
  v799.toNat
def k0_dev35 (d0 : Dev nD) : Nat :=
  let c0_i32_1452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1451 : BitVec 32 := 1#32
  let v901 : BitVec 32 := Scalar.muli v7 c1_i32_1451
  let v902 : BitVec 32 := Scalar.addi c0_i32_1452 v901
  v902.toNat
def k0_dev36 (d0 : Dev nD) : Nat :=
  let c0_i32_1484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1483 : BitVec 32 := 1#32
  let v919 : BitVec 32 := Scalar.muli v5 c1_i32_1483
  let v920 : BitVec 32 := Scalar.addi c0_i32_1484 v919
  v920.toNat
def k0_dev37 (d0 : Dev nD) : Nat :=
  let c0_i32_1516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1515 : BitVec 32 := 1#32
  let v937 : BitVec 32 := Scalar.muli v7 c1_i32_1515
  let v938 : BitVec 32 := Scalar.addi c0_i32_1516 v937
  v938.toNat
def k0_dev38 (d0 : Dev nD) : Nat :=
  let c0_i32_1548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1547 : BitVec 32 := 1#32
  let v955 : BitVec 32 := Scalar.muli v5 c1_i32_1547
  let v956 : BitVec 32 := Scalar.addi c0_i32_1548 v955
  v956.toNat
def k0_dev39 (d0 : Dev nD) : Nat :=
  let c0_i32_1580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1579 : BitVec 32 := 1#32
  let v973 : BitVec 32 := Scalar.muli v7 c1_i32_1579
  let v974 : BitVec 32 := Scalar.addi c0_i32_1580 v973
  v974.toNat
def k0_dev40 (d0 : Dev nD) : Nat :=
  let c0_i32_1612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1611 : BitVec 32 := 1#32
  let v991 : BitVec 32 := Scalar.muli v5 c1_i32_1611
  let v992 : BitVec 32 := Scalar.addi c0_i32_1612 v991
  v992.toNat
def k0_dev41 (d0 : Dev nD) : Nat :=
  let c0_i32_1644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1643 : BitVec 32 := 1#32
  let v1009 : BitVec 32 := Scalar.muli v7 c1_i32_1643
  let v1010 : BitVec 32 := Scalar.addi c0_i32_1644 v1009
  v1010.toNat
def k0_dev42 (d0 : Dev nD) : Nat :=
  let c0_i32_1676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1675 : BitVec 32 := 1#32
  let v1027 : BitVec 32 := Scalar.muli v5 c1_i32_1675
  let v1028 : BitVec 32 := Scalar.addi c0_i32_1676 v1027
  v1028.toNat
def k0_dev43 (d0 : Dev nD) : Nat :=
  let c0_i32_1859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1858 : BitVec 32 := 1#32
  let v1130 : BitVec 32 := Scalar.muli v7 c1_i32_1858
  let v1131 : BitVec 32 := Scalar.addi c0_i32_1859 v1130
  v1131.toNat
def k0_dev44 (d0 : Dev nD) : Nat :=
  let c0_i32_1891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1890 : BitVec 32 := 1#32
  let v1148 : BitVec 32 := Scalar.muli v5 c1_i32_1890
  let v1149 : BitVec 32 := Scalar.addi c0_i32_1891 v1148
  v1149.toNat
def k0_dev45 (d0 : Dev nD) : Nat :=
  let c0_i32_1923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1922 : BitVec 32 := 1#32
  let v1166 : BitVec 32 := Scalar.muli v7 c1_i32_1922
  let v1167 : BitVec 32 := Scalar.addi c0_i32_1923 v1166
  v1167.toNat
def k0_dev46 (d0 : Dev nD) : Nat :=
  let c0_i32_1955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1954 : BitVec 32 := 1#32
  let v1184 : BitVec 32 := Scalar.muli v5 c1_i32_1954
  let v1185 : BitVec 32 := Scalar.addi c0_i32_1955 v1184
  v1185.toNat
def k0_dev47 (d0 : Dev nD) : Nat :=
  let c0_i32_1987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1986 : BitVec 32 := 1#32
  let v1202 : BitVec 32 := Scalar.muli v7 c1_i32_1986
  let v1203 : BitVec 32 := Scalar.addi c0_i32_1987 v1202
  v1203.toNat
def k0_dev48 (d0 : Dev nD) : Nat :=
  let c0_i32_2019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2018 : BitVec 32 := 1#32
  let v1220 : BitVec 32 := Scalar.muli v5 c1_i32_2018
  let v1221 : BitVec 32 := Scalar.addi c0_i32_2019 v1220
  v1221.toNat
def k0_dev49 (d0 : Dev nD) : Nat :=
  let c0_i32_2051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2050 : BitVec 32 := 1#32
  let v1238 : BitVec 32 := Scalar.muli v7 c1_i32_2050
  let v1239 : BitVec 32 := Scalar.addi c0_i32_2051 v1238
  v1239.toNat
def k0_dev50 (d0 : Dev nD) : Nat :=
  let c0_i32_2083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2082 : BitVec 32 := 1#32
  let v1256 : BitVec 32 := Scalar.muli v5 c1_i32_2082
  let v1257 : BitVec 32 := Scalar.addi c0_i32_2083 v1256
  v1257.toNat
def k0_dev51 (d0 : Dev nD) : Nat :=
  let c0_i32_2266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2265 : BitVec 32 := 1#32
  let v1359 : BitVec 32 := Scalar.muli v7 c1_i32_2265
  let v1360 : BitVec 32 := Scalar.addi c0_i32_2266 v1359
  v1360.toNat
def k0_dev52 (d0 : Dev nD) : Nat :=
  let c0_i32_2298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2297 : BitVec 32 := 1#32
  let v1377 : BitVec 32 := Scalar.muli v5 c1_i32_2297
  let v1378 : BitVec 32 := Scalar.addi c0_i32_2298 v1377
  v1378.toNat
def k0_dev53 (d0 : Dev nD) : Nat :=
  let c0_i32_2330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2329 : BitVec 32 := 1#32
  let v1395 : BitVec 32 := Scalar.muli v7 c1_i32_2329
  let v1396 : BitVec 32 := Scalar.addi c0_i32_2330 v1395
  v1396.toNat
def k0_dev54 (d0 : Dev nD) : Nat :=
  let c0_i32_2362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2361 : BitVec 32 := 1#32
  let v1413 : BitVec 32 := Scalar.muli v5 c1_i32_2361
  let v1414 : BitVec 32 := Scalar.addi c0_i32_2362 v1413
  v1414.toNat
def k0_dev55 (d0 : Dev nD) : Nat :=
  let c0_i32_2394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2393 : BitVec 32 := 1#32
  let v1431 : BitVec 32 := Scalar.muli v7 c1_i32_2393
  let v1432 : BitVec 32 := Scalar.addi c0_i32_2394 v1431
  v1432.toNat
def k0_dev56 (d0 : Dev nD) : Nat :=
  let c0_i32_2426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2425 : BitVec 32 := 1#32
  let v1449 : BitVec 32 := Scalar.muli v5 c1_i32_2425
  let v1450 : BitVec 32 := Scalar.addi c0_i32_2426 v1449
  v1450.toNat
def k0_dev57 (d0 : Dev nD) : Nat :=
  let c0_i32_2458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2457 : BitVec 32 := 1#32
  let v1467 : BitVec 32 := Scalar.muli v7 c1_i32_2457
  let v1468 : BitVec 32 := Scalar.addi c0_i32_2458 v1467
  v1468.toNat
def k0_dev58 (d0 : Dev nD) : Nat :=
  let c0_i32_2490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2489 : BitVec 32 := 1#32
  let v1485 : BitVec 32 := Scalar.muli v5 c1_i32_2489
  let v1486 : BitVec 32 := Scalar.addi c0_i32_2490 v1485
  v1486.toNat
def k0_dev59 (d0 : Dev nD) : Nat :=
  let c0_i32_2673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2672 : BitVec 32 := 1#32
  let v1588 : BitVec 32 := Scalar.muli v7 c1_i32_2672
  let v1589 : BitVec 32 := Scalar.addi c0_i32_2673 v1588
  v1589.toNat
def k0_dev60 (d0 : Dev nD) : Nat :=
  let c0_i32_2721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2720 : BitVec 32 := 1#32
  let v1614 : BitVec 32 := Scalar.muli v7 c1_i32_2720
  let v1615 : BitVec 32 := Scalar.addi c0_i32_2721 v1614
  v1615.toNat
def k0_dev61 (d0 : Dev nD) : Nat :=
  let c0_i32_2769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2768 : BitVec 32 := 1#32
  let v1640 : BitVec 32 := Scalar.muli v7 c1_i32_2768
  let v1641 : BitVec 32 := Scalar.addi c0_i32_2769 v1640
  v1641.toNat
def k0_dev62 (d0 : Dev nD) : Nat :=
  let c0_i32_2817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2816 : BitVec 32 := 1#32
  let v1666 : BitVec 32 := Scalar.muli v7 c1_i32_2816
  let v1667 : BitVec 32 := Scalar.addi c0_i32_2817 v1666
  v1667.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S2x4096x256 : Shape := ⟨3, ![2, 4096, 256]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2x4x4096x4096 : Shape := ⟨4, ![2, 4, 4096, 4096]⟩
abbrev S1x1x4096x4096 : Shape := ⟨4, ![1, 1, 4096, 4096]⟩
abbrev S2x4x4096 : Shape := ⟨3, ![2, 4, 4096]⟩
abbrev S2x4x4096x1 : Shape := ⟨4, ![2, 4, 4096, 1]⟩
abbrev S2x4x64x4096 : Shape := ⟨4, ![2, 4, 64, 4096]⟩

abbrev nBuf : Space → Nat
  | .hbm => 80
  | .vmem => 0
  | .smem => 0
  | _ => 0

abbrev bufTy : (tb : Table) → Fin (tcTables nBuf tb) → BufTy
  | .hbm, ⟨0, _⟩ => ⟨S2x4096x512, .bf16⟩
  | .hbm, ⟨1, _⟩ => ⟨S512x256, .bf16⟩
  | .hbm, ⟨2, _⟩ => ⟨S2x4096x4x64, .bf16⟩
  | .hbm, ⟨3, _⟩ => ⟨S2x4096x4x64, .bf16⟩
  | .hbm, ⟨4, _⟩ => ⟨S256x512, .bf16⟩
  | .hbm, ⟨5, _⟩ => ⟨S2x4096x512, .f32⟩
  | .hbm, ⟨6, _⟩ => ⟨S512x256, .f32⟩
  | .hbm, ⟨7, _⟩ => ⟨S2x4096x4x64, .f32⟩
  | .hbm, ⟨8, _⟩ => ⟨S2x4096x4x64, .f32⟩
  | .hbm, ⟨9, _⟩ => ⟨S256x512, .f32⟩
  | .hbm, ⟨10, _⟩ => ⟨S2x4096x256, .f32⟩
  | .hbm, ⟨11, _⟩ => ⟨S2x4096x4x64, .f32⟩
  | .hbm, ⟨12, _⟩ => ⟨S4096, .i32⟩
  | .hbm, ⟨13, _⟩ => ⟨S_, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i32⟩
  | .hbm, ⟨22, _⟩ => ⟨S4096, .i32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096, .i32⟩
  | .hbm, ⟨33, _⟩ => ⟨S_, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S1x4096, .i32⟩
  | .hbm, ⟨52, _⟩ => ⟨S4096x4096, .i32⟩
  | .hbm, ⟨53, _⟩ => ⟨S4096x4096, .i32⟩
  | .hbm, ⟨54, _⟩ => ⟨S4096x4096, .i1⟩
  | .hbm, ⟨55, _⟩ => ⟨S2x4x4096x4096, .f32⟩
  | .hbm, ⟨56, _⟩ => ⟨S_, .f32⟩
  | .hbm, ⟨57, _⟩ => ⟨S2x4x4096x4096, .f32⟩
  | .hbm, ⟨58, _⟩ => ⟨S2x4x4096x4096, .f32⟩
  | .hbm, ⟨59, _⟩ => ⟨S1x1x4096x4096, .i1⟩
  | .hbm, ⟨60, _⟩ => ⟨S_, .f32⟩
  | .hbm, ⟨61, _⟩ => ⟨S_, .f32⟩
  | .hbm, ⟨62, _⟩ => ⟨S2x4x4096x4096, .i1⟩
  | .hbm, ⟨63, _⟩ => ⟨S2x4x4096x4096, .f32⟩
  | .hbm, ⟨64, _⟩ => ⟨S2x4x4096x4096, .f32⟩
  | .hbm, ⟨65, _⟩ => ⟨S_, .f32⟩
  | .hbm, ⟨66, _⟩ => ⟨S2x4x4096, .f32⟩
  | .hbm, ⟨67, _⟩ => ⟨S2x4x4096x1, .f32⟩
  | .hbm, ⟨68, _⟩ => ⟨S2x4x4096x4096, .f32⟩
  | .hbm, ⟨69, _⟩ => ⟨S2x4x4096x4096, .f32⟩
  | .hbm, ⟨70, _⟩ => ⟨S2x4x4096x4096, .f32⟩
  | .hbm, ⟨71, _⟩ => ⟨S_, .f32⟩
  | .hbm, ⟨72, _⟩ => ⟨S2x4x4096, .f32⟩
  | .hbm, ⟨73, _⟩ => ⟨S2x4x4096x1, .f32⟩
  | .hbm, ⟨74, _⟩ => ⟨S2x4x4096x4096, .f32⟩
  | .hbm, ⟨75, _⟩ => ⟨S2x4x4096x4096, .f32⟩
  | .hbm, ⟨76, _⟩ => ⟨S2x4x64x4096, .f32⟩
  | .hbm, ⟨77, _⟩ => ⟨S2x4096x4x64, .f32⟩
  | .hbm, ⟨78, _⟩ => ⟨S2x4096x256, .f32⟩
  | .hbm, ⟨79, _⟩ => ⟨S2x4096x512, .f32⟩
  | _, _ => ⟨S2x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v20 : Ref sig .tc := ⟨.hbm, 64, rfl⟩
abbrev main_cst_2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_cst_3 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩

abbrev nD : Nat := 1
abbrev τ : Topo := Topo.v7x

variable {F : FTy → Type} [FloatOps F]
-- ==== Proof.Protocol.lean ====
/-
# The ring's protocol: devices, pieces, transfers, contents and the schedule

Sixteen devices stand on a ring. Each of them keeps two stacks of key/value slots: `rbuf`, whose slot `s` receives what the
device `s` places to the left started with, and `lbuf`, whose slot `s` receives what the device `s` places to the right
started with. A slot is four pieces (keys and values of two batches); a transfer moves one piece from slot `h` of a device
to slot `h + 1` of its neighbour. This module names the transfers, says what every piece holds once it has arrived, and
gives the schedule of what each semaphore hands over.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The rounds' algebra: named duties are `Bool`, as a barrier cell has two of them. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The ring -/

/-- The device `s` places to the left of `c`. -/
def back (c : Dev nD) (s : ℕ) : Dev nD := ⟨(c.val + (16 - s % 16)) % 16, Nat.mod_lt _ (by decide)⟩
/-- The device `s` places to the right of `c`. -/
def ahead (c : Dev nD) (s : ℕ) : Dev nD := ⟨(c.val + s) % 16, Nat.mod_lt _ (by decide)⟩

abbrev nxt (c : Dev nD) : Dev nD := ahead c 1
abbrev prv (c : Dev nD) : Dev nD := back c 1

theorem prv_nxt (c : Dev nD) : prv (nxt c) = c := by revert c; decide
theorem nxt_prv (c : Dev nD) : nxt (prv c) = c := by revert c; decide
theorem nxt_ne_prv (c : Dev nD) : nxt c ≠ prv c := by revert c; decide
theorem back_zero (c : Dev nD) : back c 0 = c := by revert c; decide
theorem ahead_zero (c : Dev nD) : ahead c 0 = c := by revert c; decide

theorem back_nxt (c : Dev nD) (s : ℕ) (hs : s < 15) : back (nxt c) (s + 1) = back c s := by
  have := c.isLt
  apply Fin.ext
  show ((c.val + 1) % 16 + (16 - (s + 1) % 16)) % 16 = (c.val + (16 - s % 16)) % 16
  omega
theorem ahead_prv (c : Dev nD) (s : ℕ) (hs : s < 15) : ahead (prv c) (s + 1) = ahead c s := by
  have := c.isLt
  apply Fin.ext
  show ((c.val + (16 - 1 % 16)) % 16 + (s + 1)) % 16 = (c.val + s) % 16
  omega

def turn : Dev nD ≃ Dev nD := ⟨nxt, prv, prv_nxt, nxt_prv⟩

/-! ## Pieces and transfers -/

/-- A piece: slot and quarter of `rbuf` (`inl`) or of `lbuf` (`inr`). -/
abbrev Pc : Type := (Fin 9 × Fin 4) ⊕ (Fin 8 × Fin 4)
/-- A transfer: hop and quarter, to the right (`inl`) or to the left (`inr`). -/
abbrev Xf : Type := (Fin 8 × Fin 4) ⊕ (Fin 7 × Fin 4)

theorem inbR (s : Fin 9) (p : Fin 4) : ∀ a, (![s.val, p.val, 0, 0, 0] : Fin 5 → Nat) a + S1x1x4x256x64.size a ≤ S9x4x4x256x64.size a := by
  revert s p; decide
theorem inbL (s : Fin 8) (p : Fin 4) : ∀ a, (![s.val, p.val, 0, 0, 0] : Fin 5 → Nat) a + S1x1x4x256x64.size a ≤ S8x4x4x256x64.size a := by
  revert s p; decide
theorem inbSR (h : Fin 8) (p : Fin 4) : ∀ a, (![h.val, p.val] : Fin 2 → Nat) a + S1x1.size a ≤ S8x4.size a := by
  revert h p; decide
theorem inbSL (h : Fin 7) (p : Fin 4) : ∀ a, (![h.val, p.val] : Fin 2 → Nat) a + S1x1.size a ≤ S7x4.size a := by
  revert h p; decide

abbrev rM : Memref sig .tc .vmem S9x4x4x256x64 .bf16 := Memref.whole cc0_scratch0
abbrev lM : Memref sig .tc .vmem S8x4x4x256x64 .bf16 := Memref.whole cc0_scratch1

/-- The memref of a piece. -/
def pieceM : Pc → Memref sig .tc .vmem S4x256x64 .bf16
  | .inl (s, p) => (rM.slice (Rect.unit (s := S9x4x4x256x64) ![s.val, p.val, 0, 0, 0] S1x1x4x256x64.size (inbR s p)) (fun _ => rfl)).squeeze
      S4x256x64 squeezes_S1x1x4x256x64_S4x256x64
  | .inr (s, p) => (lM.slice (Rect.unit (s := S8x4x4x256x64) ![s.val, p.val, 0, 0, 0] S1x1x4x256x64.size (inbL s p)) (fun _ => rfl)).squeeze
      S4x256x64 squeezes_S1x1x4x256x64_S4x256x64

/-- The piece a transfer reads, on the sender. -/
def srcP : Xf → Pc
  | .inl (h, p) => .inl (h.castSucc, p)
  | .inr (h, p) => .inr (h.castSucc, p)
/-- The piece a transfer fills, on the receiver. -/
def dstP : Xf → Pc
  | .inl (h, p) => .inl (h.succ, p)
  | .inr (h, p) => .inr (h.succ, p)
/-- The device a transfer of `c` goes to. -/
def tgt (c : Dev nD) : Xf → Dev nD
  | .inl _ => nxt c
  | .inr _ => prv c
/-- The device whose transfer reaches `c`. -/
def org (c : Dev nD) : Xf → Dev nD
  | .inl _ => prv c
  | .inr _ => nxt c
/-- A transfer's hop. -/
def hop : Xf → ℕ
  | .inl (h, _) => h.val
  | .inr (h, _) => h.val

theorem tgt_org (c : Dev nD) (x : Xf) : tgt (org c x) x = c := by
  rcases x with _ | _ <;> first | exact nxt_prv c | exact prv_nxt c
theorem org_tgt (c : Dev nD) (x : Xf) : org (tgt c x) x = c := by
  rcases x with _ | _ <;> first | exact nxt_prv c | exact prv_nxt c

/-- The transfer filling a piece; none fills slot 0. -/
def inX : Pc → Option Xf
  | .inl (s, p) => if h : s.val = 0 then none else some (.inl (⟨s.val - 1, by omega⟩, p))
  | .inr (s, p) => if h : s.val = 0 then none else some (.inr (⟨s.val - 1, by omega⟩, p))
/-- The transfer reading a piece; none reads the last slot. -/
def outX : Pc → Option Xf
  | .inl (s, p) => if h : s.val = 8 then none else some (.inl (⟨s.val, by omega⟩, p))
  | .inr (s, p) => if h : s.val = 7 then none else some (.inr (⟨s.val, by omega⟩, p))

theorem inX_iff : ∀ (y : Pc) (x : Xf), inX y = some x ↔ y = dstP x := by decide +kernel
theorem outX_iff : ∀ (y : Pc) (x : Xf), outX y = some x ↔ y = srcP x := by decide +kernel

/-! ## The semaphores -/

def sndS : Xf → DmaSem sig
  | .inl (h, p) => ((cc0_scratch2.slice (Rect.unit (s := S8x4) ![h.val, p.val] S1x1.size (inbSR h p))).squeeze S_ squeezes_S1x1_S_).sem
  | .inr (h, p) => ((cc0_scratch4.slice (Rect.unit (s := S7x4) ![h.val, p.val] S1x1.size (inbSL h p))).squeeze S_ squeezes_S1x1_S_).sem
def rcvS : Xf → DmaSem sig
  | .inl (h, p) => ((cc0_scratch3.slice (Rect.unit (s := S8x4) ![h.val, p.val] S1x1.size (inbSR h p))).squeeze S_ squeezes_S1x1_S_).sem
  | .inr (h, p) => ((cc0_scratch5.slice (Rect.unit (s := S7x4) ![h.val, p.val] S1x1.size (inbSL h p))).squeeze S_ squeezes_S1x1_S_).sem

/-- A transfer's two semaphores: the sender's (`false`) and the receiver's (`true`). -/
def semX : Xf × Bool → DmaSem sig
  | (x, false) => sndS x
  | (x, true) => rcvS x

/-- Which transfer's semaphore a number is. -/
def dec (q : DmaSem sig) : Option (Xf × Bool) :=
  if q.val < 6 then none
  else if h : q.val < 38 then some (.inl (⟨(q.val - 6) / 4, by omega⟩, ⟨(q.val - 6) % 4, by omega⟩), false)
  else if h : q.val < 70 then some (.inl (⟨(q.val - 38) / 4, by omega⟩, ⟨(q.val - 38) % 4, by omega⟩), true)
  else if h : q.val < 98 then some (.inr (⟨(q.val - 70) / 4, by omega⟩, ⟨(q.val - 70) % 4, by omega⟩), false)
  else if h : q.val < 126 then some (.inr (⟨(q.val - 98) / 4, by omega⟩, ⟨(q.val - 98) % 4, by omega⟩), true)
  else none

theorem dec_semX : ∀ k : Xf × Bool, dec (semX k) = some k := by decide +kernel
theorem dec_snd (x : Xf) : dec (sndS x) = some (x, false) := dec_semX (x, false)
theorem dec_rcv (x : Xf) : dec (rcvS x) = some (x, true) := dec_semX (x, true)
theorem semX_inj : Function.Injective semX := fun k k' h => Option.some.inj (by rw [← dec_semX k, ← dec_semX k', h])

abbrev barS : Sem sig := (SemArray.scalar (sig.barrier 0 rfl) : Sems sig S_).sem

abbrev barCell (c : Dev nD) : GSem nD τ sig := ((c : Thread nD τ), .reg barS)
abbrev sndCell (c : Dev nD) (x : Xf) : GSem nD τ sig := ((c : Thread nD τ), .dma (sndS x))
abbrev rcvCell (c : Dev nD) (x : Xf) : GSem nD τ sig := ((c : Thread nD τ), .dma (rcvS x))

/-- What one piece counts on a semaphore. -/
abbrev N : ℕ := (pieceM (.inl (0, 0))).view.dmaCredit
theorem N_pos : 0 < N := View.dmaCredit_pos _ (by decide)
theorem credit_piece : ∀ y : Pc, (pieceM y).view.dmaCredit = N := by decide +kernel

end Cert.RingAttn

end
-- ==== Proof.Schedule.lean ====
/-
# The contents of the slots, and the schedule of the semaphores

What every slot holds once it has been filled, what a landing copy writes, what each semaphore hands over when it is waited
for, what each device owes, and the levels that order the waits: staging and send semaphores below the barrier, the barrier
below every receive semaphore, and the receive semaphores by hop.
-/
module

public import proofs.«01_k».proof.Proof.Protocol

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## Contents -/

/-- The staged operands of a device. -/
def xstg (c : Dev nD) : (cc0_stg0_0 : Ref sig .tc).ty.Contents (Elt F) := (win0_0.blk (0 : Fin 1)).view.read (Elt F) (m ((c : Thread nD τ).loc main_arg0))
def qstg (c : Dev nD) : (cc0_stg1_0 : Ref sig .tc).ty.Contents (Elt F) := (win0_1.blk (0 : Fin 1)).view.read (Elt F) (m ((c : Thread nD τ).loc main_arg1))
def kstg (c : Dev nD) : (cc0_stg2_0 : Ref sig .tc).ty.Contents (Elt F) := (win0_2.blk (0 : Fin 1)).view.read (Elt F) (m ((c : Thread nD τ).loc main_arg2))
def vstg (c : Dev nD) : (cc0_stg3_0 : Ref sig .tc).ty.Contents (Elt F) := (win0_3.blk (0 : Fin 1)).view.read (Elt F) (m ((c : Thread nD τ).loc main_arg3))
def ostg (c : Dev nD) : (cc0_stg4_0 : Ref sig .tc).ty.Contents (Elt F) := (win0_4.blk (0 : Fin 1)).view.read (Elt F) (m ((c : Thread nD τ).loc main_arg4))

/-- An index of a quarter pair out of its four coordinates. -/
def ixP (b : Fin 2) (h : Fin 4) (i : Fin 256) (e : Fin 64) : S2x4x256x64.Idx
  | ⟨0, _⟩ => b
  | ⟨1, _⟩ => h
  | ⟨2, _⟩ => i
  | ⟨3, _⟩ => e

/-- The four quarters a device starts with: its keys (0, 1) and its values (2, 3), heads before rows. -/
def kvC (d : Dev nD) (p : ℕ) (h : Fin 4) (i : Fin 256) (e : Fin 64) : Elt F .bf16 :=
  if p < 2 then k0_pay3 (F := F) (kstg m d) (ixP ⟨p % 2, Nat.mod_lt _ (by decide)⟩ h i e)
  else k0_pay4 (F := F) (vstg m d) (ixP ⟨p % 2, Nat.mod_lt _ (by decide)⟩ h i e)

/-- `rbuf` of `c` once every slot is filled. -/
def contR (c : Dev nD) : (cc0_scratch0 : Ref sig .tc).ty.Contents (Elt F) :=
  fun i => kvC m (back c (i (0 : Fin 5)).val) (i (1 : Fin 5)).val (i (2 : Fin 5)) (i (3 : Fin 5)) (i (4 : Fin 5))
/-- `lbuf` of `c` once every slot is filled. -/
def contL (c : Dev nD) : (cc0_scratch1 : Ref sig .tc).ty.Contents (Elt F) :=
  fun i => kvC m (ahead c (i (0 : Fin 5)).val) (i (1 : Fin 5)).val (i (2 : Fin 5)) (i (3 : Fin 5)) (i (4 : Fin 5))

/-- The buffer of a piece, filled. -/
def cont (c : Dev nD) : (y : Pc) → Buf (Elt F) ((pieceM y).view.loc (c : Thread nD τ))
  | .inl _ => contR m c
  | .inr _ => contL m c

/-- Piece `y` of `c` at share `q`, filled. -/
def full (c : Dev nD) (q : PosShare TreeShare) (y : Pc) : sProp 𝕄 :=
  (pieceM y).view.loc (c : Thread nD τ) ↦[(pieceM y).view.set]{q} cont m c y
/-- Piece `y` of `c`, holding anything. -/
def room (c : Dev nD) (y : Pc) : sProp 𝕄 :=
  iprop(∃ f : Buf (Elt F) ((pieceM y).view.loc (c : Thread nD τ)), (pieceM y).view.loc (c : Thread nD τ) ↦[(pieceM y).view.set]{fullShare} f)

omit [FloatOps F] [Named F] in
instance room_storable (c : Dev nD) (y : Pc) : BI.Storable (upEmb : UEmb _ 𝕄) (room (F := F) c y) := by unfold room; infer_instance
omit [FloatOps F] [Named F] in
instance full_storable [FloatOps F] (c : Dev nD) (q) (y : Pc) : BI.Storable (upEmb : UEmb _ 𝕄) (full (F := F) m c q y) := by unfold full; infer_instance

/-- The two halves a filled piece is held in: one is kept for the loads, the other is lent to the copy that passes the piece on. -/
abbrev keep : PosShare TreeShare := fullShare.left
abbrev lend : PosShare TreeShare := fullShare.right

omit [FloatOps F] [Named F] in
theorem full_halves [FloatOps F] (c : Dev nD) (y : Pc) : (full m c fullShare y : sProp 𝕄) ⊣⊢ iprop(full m c keep y ∗ full m c lend y) :=
  pointsTo_share (PosShare.mem_left_op_right _)

/-- A copy of a filled piece, landed, is the neighbour's filled piece. -/
theorem landing (c : Dev nD) (x : Xf) (fd : Buf (Elt F) ((pieceM (dstP x)).view.loc (tgt c x : Thread nD τ)))
    (i : (pieceM (dstP x)).view.ty.Idx) (hi : i ∈ (pieceM (dstP x)).view.set) :
    (pieceM (dstP x)).view.write (Elt F) fd ((pieceM (srcP x)).view.read (Elt F) (cont m c (srcP x))) Finset.univ i = cont m (tgt c x) (dstP x) i := by
  obtain ⟨j, -, rfl⟩ := Finset.mem_map.mp hi
  rw [View.write_emb_of_mem _ _ (Finset.mem_univ j), View.read_apply, cast_cast]
  rcases x with ⟨h, p⟩ | ⟨h, p⟩
  · show kvC m (back c _) _ _ _ _ = kvC m (back (nxt c) _) _ _ _ _
    generalize hk : (Shape.reshapeEquiv (squeezes_S1x1x4x256x64_S4x256x64.numel_eq)) j = k
    have e : ∀ (s : Fin 9), (pieceM (.inl (s, p))).view.emb j = (Rect.unit (s := S9x4x4x256x64) ![s.val, p.val, 0, 0, 0] S1x1x4x256x64.size (inbR s p)).emb k := fun s => by
      rw [← hk]; rfl
    have k0 : (k (0 : Fin 5)).val = 0 := by have := (k (0 : Fin 5)).isLt; exact Nat.lt_one_iff.mp this
    have e0 : ∀ s : Fin 9, ((pieceM (.inl (s, p))).view.emb j (0 : Fin 5)).val = s.val := fun s => by
      rw [e s, Rect.emb_apply]; show s.val + 1 * (k (0 : Fin 5)).val = _; rw [k0]; rfl
    have ea : ∀ (s s' : Fin 9) (a : Fin 4), ((pieceM (.inl (s, p))).view.emb j a.succ).val = ((pieceM (.inl (s', p))).view.emb j a.succ).val := fun s s' a => by
      rw [e s, e s', Rect.emb_apply, Rect.emb_apply]; rfl
    have hb : back c ((pieceM (.inl (h.castSucc, p))).view.emb j (0 : Fin 5)).val = back (nxt c) ((pieceM (.inl (h.succ, p))).view.emb j (0 : Fin 5)).val := by
      rw [e0, e0]; exact (back_nxt c h.val (by have := h.isLt; omega)).symm
    have e1 := ea h.castSucc h.succ 0
    have e2 : ((pieceM (.inl (h.castSucc, p))).view.emb j (2 : Fin 5) : Fin 4) = (pieceM (.inl (h.succ, p))).view.emb j (2 : Fin 5) := Fin.ext (ea h.castSucc h.succ 1)
    have e3 : ((pieceM (.inl (h.castSucc, p))).view.emb j (3 : Fin 5) : Fin 256) = (pieceM (.inl (h.succ, p))).view.emb j (3 : Fin 5) := Fin.ext (ea h.castSucc h.succ 2)
    have e4 : ((pieceM (.inl (h.castSucc, p))).view.emb j (4 : Fin 5) : Fin 64) = (pieceM (.inl (h.succ, p))).view.emb j (4 : Fin 5) := Fin.ext (ea h.castSucc h.succ 3)
    exact (congr (congr (congr (congrArg₂ (kvC m) hb e1) e2) e3) e4)
  · show kvC m (ahead c _) _ _ _ _ = kvC m (ahead (prv c) _) _ _ _ _
    generalize hk : (Shape.reshapeEquiv (squeezes_S1x1x4x256x64_S4x256x64.numel_eq)) j = k
    have e : ∀ (s : Fin 8), (pieceM (.inr (s, p))).view.emb j = (Rect.unit (s := S8x4x4x256x64) ![s.val, p.val, 0, 0, 0] S1x1x4x256x64.size (inbL s p)).emb k := fun s => by
      rw [← hk]; rfl
    have k0 : (k (0 : Fin 5)).val = 0 := by have := (k (0 : Fin 5)).isLt; exact Nat.lt_one_iff.mp this
    have e0 : ∀ s : Fin 8, ((pieceM (.inr (s, p))).view.emb j (0 : Fin 5)).val = s.val := fun s => by
      rw [e s, Rect.emb_apply]; show s.val + 1 * (k (0 : Fin 5)).val = _; rw [k0]; rfl
    have ea : ∀ (s s' : Fin 8) (a : Fin 4), ((pieceM (.inr (s, p))).view.emb j a.succ).val = ((pieceM (.inr (s', p))).view.emb j a.succ).val := fun s s' a => by
      rw [e s, e s', Rect.emb_apply, Rect.emb_apply]; rfl
    have hb : ahead c ((pieceM (.inr (h.castSucc, p))).view.emb j (0 : Fin 5)).val = ahead (prv c) ((pieceM (.inr (h.succ, p))).view.emb j (0 : Fin 5)).val := by
      rw [e0, e0]; exact (ahead_prv c h.val (by have := h.isLt; omega)).symm
    have e1 := ea h.castSucc h.succ 0
    have e2 : ((pieceM (.inr (h.castSucc, p))).view.emb j (2 : Fin 5) : Fin 4) = (pieceM (.inr (h.succ, p))).view.emb j (2 : Fin 5) := Fin.ext (ea h.castSucc h.succ 1)
    have e3 : ((pieceM (.inr (h.castSucc, p))).view.emb j (3 : Fin 5) : Fin 256) = (pieceM (.inr (h.succ, p))).view.emb j (3 : Fin 5) := Fin.ext (ea h.castSucc h.succ 2)
    have e4 : ((pieceM (.inr (h.castSucc, p))).view.emb j (4 : Fin 5) : Fin 64) = (pieceM (.inr (h.succ, p))).view.emb j (4 : Fin 5) := Fin.ext (ea h.castSucc h.succ 3)
    exact (congr (congr (congr (congrArg₂ (kvC m) hb e1) e2) e3) e4)

/-! ## The schedule -/

/-- What a neighbour's signal hands `c`: from the right neighbour (`true`) its slots of `rbuf`, from the left one (`false`)
    its slots of `lbuf` — the places `c`'s copies are going to fill. -/
def barPay (c : Dev nD) : Bool → sProp 𝕄
  | true => bigSep Finset.univ fun hp : Fin 8 × Fin 4 => room (nxt c) (dstP (.inl hp))
  | false => bigSep Finset.univ fun hp : Fin 7 × Fin 4 => room (prv c) (dstP (.inr hp))
/-- What a transfer's semaphores hand over: the sender's the lent half of the piece sent, the receiver's the piece filled. -/
def xfPay (c : Dev nD) : Option (Xf × Bool) → sProp 𝕄
  | some (x, false) => full m c lend (srcP x)
  | some (x, true) => full m c fullShare (dstP x)
  | none => iprop(emp)

/-- One round of every cell: the barrier's two units, a transfer semaphore's one piece. -/
def ringRd : Rounds.Schedule (GSem nD τ sig) Bool 𝕄 where
  duties g r := if r = 0 then (match g.2 with | .reg _ => Finset.univ | .dma _ => {false}) else ∅
  unitless _ := False
  amount g _ _ := match g.2 with | .reg _ => 1 | .dma _ => N
  payload g _ d := match g.2 with | .reg _ => barPay g.1.1 d | .dma q => xfPay m g.1.1 (dec q)
  amount_pos g _ _ _ := by
    rcases g with ⟨_, _ | _⟩
    · exact Nat.one_pos
    · exact N_pos

instance barPay_storable (c : Dev nD) (d : Bool) : BI.Storable (upEmb : UEmb _ 𝕄) (barPay (F := F) c d) := by
  cases d <;> unfold barPay <;> infer_instance
instance xfPay_storable (c : Dev nD) (k) : BI.Storable (upEmb : UEmb _ 𝕄) (xfPay (F := F) m c k) := by
  rcases k with _ | ⟨x, _ | _⟩ <;> unfold xfPay <;> infer_instance
instance ringRd_payload_storable (g : GSem nD τ sig) (r : ℕ) (d : Bool) :
    BI.Storable (upEmb : UEmb _ 𝕄) ((ringRd (F := F) m).payload g r d) := by
  rcases g with ⟨_, _ | _⟩
  · exact barPay_storable _ _
  · exact xfPay_storable m _ _

section Sched
variable (c : Dev nD) (x : Xf)

theorem duties_bar : (ringRd (F := F) m).duties (barCell c) 0 = Finset.univ := rfl
theorem duties_dma (q : DmaSem sig) : (ringRd (F := F) m).duties ((c : Thread nD τ), .dma q) 0 = {false} := rfl
theorem duties_later (g : GSem nD τ sig) : ∀ r, 1 ≤ r → (ringRd (F := F) m).duties g r = ∅ :=
  fun r hr => if_neg fun h => by omega

theorem expect_bar : (ringRd (F := F) m).expect (barCell c) 0 = 2 := by
  unfold Schedule.expect Schedule.amountOf
  rw [duties_bar]; rfl
theorem expect_dma (q : DmaSem sig) : (ringRd (F := F) m).expect ((c : Thread nD τ), .dma q) 0 = N := by
  unfold Schedule.expect Schedule.amountOf; rw [duties_dma, Finset.sum_singleton]; rfl

theorem payload_snd (d : Bool) : (ringRd (F := F) m).payload (sndCell c x) 0 d = full m c lend (srcP x) := by
  show xfPay m c (dec (sndS x)) = _; rw [dec_snd]; rfl
theorem payload_rcv (d : Bool) : (ringRd (F := F) m).payload (rcvCell c x) 0 d = full m c fullShare (dstP x) := by
  show xfPay m c (dec (rcvS x)) = _; rw [dec_rcv]; rfl

theorem rest_bar : bigSep ((ringRd (F := F) m).duties (barCell c) 0 \ ∅) (fun d => (ringRd (F := F) m).payload (barCell c) 0 d)
    = iprop(barPay c false ∗ barPay c true) := by
  rw [Finset.sdiff_empty, duties_bar, bigSep_univ_eq_bigSepL [false, true] (by decide) (by decide), bigSepL_cons_cons, bigSepL_singleton]
  rfl
theorem rest_snd : bigSep ((ringRd (F := F) m).duties (sndCell c x) 0 \ ∅) (fun d => (ringRd (F := F) m).payload (sndCell c x) 0 d) = full m c lend (srcP x) := by
  rw [Finset.sdiff_empty, duties_dma, bigSep_singleton, payload_snd]
theorem rest_rcv : bigSep ((ringRd (F := F) m).duties (rcvCell c x) 0 \ ∅) (fun d => (ringRd (F := F) m).payload (rcvCell c x) 0 d) = full m c fullShare (dstP x) := by
  rw [Finset.sdiff_empty, duties_dma, bigSep_singleton, payload_rcv]

end Sched

/-! ## The levels -/

def L (g : GSem nD τ sig) : Finset Unit := if g.1.2 = .tc then {()} else ∅
def lvD : Option (Xf × Bool) → ℕ
  | some (x, true) => hop x + 2
  | _ => 0
def lv (g : GSem nD τ sig) (_ : Unit) : ℕ := match g.2 with | .reg _ => 1 | .dma q => lvD (dec q)

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (x : Xf) : lv (rcvCell c x) () = hop x + 2 := by show lvD (dec (rcvS x)) = _; rw [dec_rcv]; rfl
theorem lv_snd (c : Dev nD) (x : Xf) : lv (sndCell c x) () = 0 := by show lvD (dec (sndS x)) = _; rw [dec_snd]; rfl
theorem lv_bar (c : Dev nD) : lv (barCell c) () = 1 := rfl

/-- Waiting at level `l` is allowed while everything owed lies above it. -/
theorem mayWait_of (c : Dev nD) (sm : SemLoc sig) (l : ℕ) (hl : lv ((c : Thread nD τ), sm) () = l) (O : CellTallies nD τ sig Unit)
    (hO : ∀ g u, 0 < O g u → g.1.2 = .tc ∧ l < lv g ()) : (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hl.le)
    (fun g u hg => (hO g u hg).2)

end Cert.RingAttn

end
-- ==== Proof.State.lean ====
/-
# What a device holds in the middle of the ring, and one rule for each kind of step

The kernel's exchange is a list of steps: a copy started, a copy's arrival awaited, a copy's departure awaited, a half slot
read. What a device holds between two steps is a function of the steps still to come, so one rule for each kind of step
carries the whole exchange.
-/
module

public import proofs.«01_k».proof.Proof.Schedule
public import Idealize.ShloMosaic.Lib.Pipeline.ValueKit.Geometry

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The steps -/

/-- A step: start a transfer, await one's arrival, await one's departure, read half a slot of `rbuf`, or of `lbuf`. -/
inductive Op
  | send (x : Xf)
  | recv (x : Xf)
  | swait (x : Xf)
  | ldR (s : Fin 9) (h : Fin 2)
  | ldL (s : Fin 8) (h : Fin 2)
  deriving DecidableEq

/-- A ring step in the middle: what arrived at hop `h` (to the right) and `g` (to the left) is passed on at once, the new
    slots are read, and the copies of that hop are seen off. -/
abbrev ringStep (h h' : Fin 8) (g g' : Fin 7) (s : Fin 9) (u : Fin 8) (t : List Op) : List Op :=
  .recv (.inl (h, 0)) :: .send (.inl (h', 0)) :: .recv (.inr (g, 0)) :: .send (.inr (g', 0)) ::
  .recv (.inl (h, 1)) :: .send (.inl (h', 1)) :: .recv (.inr (g, 1)) :: .send (.inr (g', 1)) ::
  .recv (.inl (h, 2)) :: .send (.inl (h', 2)) :: .recv (.inr (g, 2)) :: .send (.inr (g', 2)) ::
  .recv (.inl (h, 3)) :: .send (.inl (h', 3)) :: .recv (.inr (g, 3)) :: .send (.inr (g', 3)) ::
  .ldR s 0 :: .ldR s 1 :: .ldL u 0 :: .ldL u 1 ::
  .swait (.inl (h, 0)) :: .swait (.inl (h, 1)) :: .swait (.inl (h, 2)) :: .swait (.inl (h, 3)) ::
  .swait (.inr (g, 0)) :: .swait (.inr (g, 1)) :: .swait (.inr (g, 2)) :: .swait (.inr (g, 3)) :: t

/-- The exchange. -/
def prog : List Op :=
  .send (.inl (0, 0)) :: .send (.inl (0, 1)) :: .send (.inl (0, 2)) :: .send (.inl (0, 3)) ::
  .send (.inr (0, 0)) :: .send (.inr (0, 1)) :: .send (.inr (0, 2)) :: .send (.inr (0, 3)) ::
  .ldR 0 0 :: .ldR 0 1 ::
  ringStep 0 1 0 1 1 1 (ringStep 1 2 1 2 2 2 (ringStep 2 3 2 3 3 3 (ringStep 3 4 3 4 4 4 (ringStep 4 5 4 5 5 5 (ringStep 5 6 5 6 6 6 (
  .recv (.inl (6, 0)) :: .send (.inl (7, 0)) :: .recv (.inr (6, 0)) ::
  .recv (.inl (6, 1)) :: .send (.inl (7, 1)) :: .recv (.inr (6, 1)) ::
  .recv (.inl (6, 2)) :: .send (.inl (7, 2)) :: .recv (.inr (6, 2)) ::
  .recv (.inl (6, 3)) :: .send (.inl (7, 3)) :: .recv (.inr (6, 3)) ::
  .ldR 7 0 :: .ldR 7 1 :: .ldL 7 0 :: .ldL 7 1 ::
  .swait (.inl (6, 0)) :: .swait (.inl (6, 1)) :: .swait (.inl (6, 2)) :: .swait (.inl (6, 3)) ::
  .swait (.inr (6, 0)) :: .swait (.inr (6, 1)) :: .swait (.inr (6, 2)) :: .swait (.inr (6, 3)) ::
  .recv (.inl (7, 0)) :: .recv (.inl (7, 1)) :: .recv (.inl (7, 2)) :: .recv (.inl (7, 3)) ::
  .ldR 8 0 :: .ldR 8 1 ::
  .swait (.inl (7, 0)) :: .swait (.inl (7, 1)) :: .swait (.inl (7, 2)) :: .swait (.inl (7, 3)) :: []))))))

/-- Whether a piece is there, `ops` being still to come. -/
def arr (ops : List Op) (y : Pc) : Bool := match inX y with
  | none => true
  | some x => !decide (Op.recv x ∈ ops)
/-- Whether no copy is reading a piece, `ops` being still to come. -/
def free (ops : List Op) (y : Pc) : Bool := match outX y with
  | none => true
  | some x => decide (Op.send x ∈ ops) || !decide (Op.swait x ∈ ops)

/-- The pieces of half a slot. -/
def pR (s : Fin 9) (h : Fin 2) (b : Fin 2) : Pc := .inl (s, ⟨2 * h.val + b.val, by omega⟩)
def pL (s : Fin 8) (h : Fin 2) (b : Fin 2) : Pc := .inr (s, ⟨2 * h.val + b.val, by omega⟩)

/-- What the list has to satisfy from a step on. -/
def okAt : Op → List Op → Bool
  | .send x, t => !decide (Op.send x ∈ t) && decide (Op.swait x ∈ t) && arr t (srcP x)
  | .recv x, t => !decide (Op.recv x ∈ t) && free t (dstP x) && t.all fun o => match o with | .send y => decide (hop x < hop y) | _ => true
  | .swait x, t => !decide (Op.swait x ∈ t) && !decide (Op.send x ∈ t) && arr t (srcP x)
  | .ldR s h, t => arr t (pR s h 0) && arr t (pR s h 1)
  | .ldL s h, t => arr t (pL s h 0) && arr t (pL s h 1)
def ok : List Op → Bool
  | [] => true
  | o :: t => okAt o t && ok t

theorem ok_prog : ok prog = true := by decide +kernel

/-! ## What is held -/

/-- The cells of a device: its transfers' semaphores and the barrier. -/
abbrev CK : Type := Option (Xf × Bool)
def ckSem : CK → SemLoc sig
  | some k => .dma (semX k)
  | none => .reg barS
abbrev kcell (ck : Dev nD × CK) : GSem nD τ sig := ((ck.1 : Thread nD τ), ckSem ck.2)

/-- What is owed while `ops` are still to come. -/
def owed (c : Dev nD) : List Op → CellTallies nD τ sig Unit
  | [] => 0
  | .send x :: t => owed c t + tallyAt (rcvCell (tgt c x) x) () N
  | .recv _ :: t => owed c t
  | .swait _ :: t => owed c t
  | .ldR _ _ :: t => owed c t
  | .ldL _ _ :: t => owed c t

theorem owed_pos (c : Dev nD) : ∀ (ops : List Op) (g : GSem nD τ sig) (u : Unit), 0 < owed c ops g u →
    ∃ x, Op.send x ∈ ops ∧ g = rcvCell (tgt c x) x
  | [], g, u, h => absurd h (Nat.lt_irrefl 0)
  | .send x :: t, g, u, h => by
      by_cases hg : g = rcvCell (tgt c x) x
      · exact ⟨x, List.mem_cons_self, hg⟩
      · have h' : 0 < owed c t g u := by
          have h2 : owed c (.send x :: t) g u = owed c t g u + tallyAt (rcvCell (tgt c x) x) () N g u := rfl
          rw [h2, tallyAt_apply, if_neg (fun hh => hg hh.1)] at h; exact h
        obtain ⟨y, hy, e⟩ := owed_pos c t g u h'
        exact ⟨y, List.mem_cons_of_mem _ hy, e⟩
  | .recv _ :: t, g, u, h => let ⟨y, hy, e⟩ := owed_pos c t g u h; ⟨y, List.mem_cons_of_mem _ hy, e⟩
  | .swait _ :: t, g, u, h => let ⟨y, hy, e⟩ := owed_pos c t g u h; ⟨y, List.mem_cons_of_mem _ hy, e⟩
  | .ldR _ _ :: t, g, u, h => let ⟨y, hy, e⟩ := owed_pos c t g u h; ⟨y, List.mem_cons_of_mem _ hy, e⟩
  | .ldL _ _ :: t, g, u, h => let ⟨y, hy, e⟩ := owed_pos c t g u h; ⟨y, List.mem_cons_of_mem _ hy, e⟩

def sendSt (c : Dev nD) (ops : List Op) (x : Xf) : sProp 𝕄 :=
  if Op.send x ∈ ops then
    iprop(room (tgt c x) (dstP x) ∗ dutyTok ER (sndCell c x) 0 false ∗ dutyTok ER (rcvCell (tgt c x) x) 0 false ∗ atPos ER (sndCell c x) 0 ∅ 0)
  else if Op.swait x ∈ ops then iprop(cred (tallyAt (sndCell c x) () N) ∗ atPos ER (sndCell c x) 0 ∅ 0)
  else semVal (sndCell c x) 0
def recvSt (c : Dev nD) (ops : List Op) (x : Xf) : sProp 𝕄 :=
  if Op.recv x ∈ ops then iprop(cred (tallyAt (rcvCell c x) () N) ∗ atPos ER (rcvCell c x) 0 ∅ 0)
  else semVal (rcvCell c x) 0
def keepSt (c : Dev nD) (ops : List Op) (y : Pc) : sProp 𝕄 := if arr ops y = true then full m c keep y else iprop(emp)
def lendSt (c : Dev nD) (ops : List Op) (y : Pc) : sProp 𝕄 := if (arr ops y && free ops y) = true then full m c lend y else iprop(emp)

/-- One summand out of all of them. -/
theorem bigSep_one {I : Type} [Fintype I] (Φ : I → sProp 𝕄) (i : I) : bigSep Finset.univ Φ ⊢ Φ i := by
  classical exact bigSep_elim (Finset.mem_univ i)

/-- What everyone knows: each cell's invariant, that each cell's first round is open, and the levels. -/
def records (K : Dev nD × CK → ℕ) : sProp 𝕄 :=
  iprop((bigSep Finset.univ fun ck : Dev nD × CK => cellInv ER (ringRd m) (K ck) (kcell ck))
    ∗ (bigSep Finset.univ fun ck : Dev nD × CK => reached ER (kcell ck) 0) ∗ levAts L lv)
instance records_persistent (K : Dev nD × CK → ℕ) : BI.Persistent (records (F := F) m K) := by unfold records; infer_instance

theorem rec_inv (K : Dev nD × CK → ℕ) (c : Dev nD) (k : CK) : records (F := F) m K ⊢ cellInv ER (ringRd m) (K (c, k)) (kcell (c, k)) := by
  unfold records
  iintro ⟨HI, -, -⟩
  iapply (bigSep_one (fun ck : Dev nD × CK => cellInv ER (ringRd m) (K ck) (kcell ck)) (c, k)); iexact HI
theorem rec_reached (K : Dev nD × CK → ℕ) (c : Dev nD) (k : CK) : records (F := F) m K ⊢ reached ER (kcell (c, k)) 0 := by
  unfold records
  iintro ⟨-, HR, -⟩
  iapply (bigSep_one (fun ck : Dev nD × CK => (reached ER (kcell ck) 0 : sProp 𝕄)) (c, k)); iexact HR
theorem rec_lev (K : Dev nD × CK → ℕ) : records (F := F) m K ⊢ (levAts L lv : sProp 𝕄) := by
  unfold records
  iintro ⟨-, -, HL⟩
  iexact HL

/-- What a device holds while `ops` are still to come. -/
def St (K : Dev nD × CK → ℕ) (c : Dev nD) (ops : List Op) : sProp 𝕄 :=
  iprop(⌜ok ops = true⌝ ∗ records m K ∗ (∃ W, owes (c : Thread nD τ) (owed c ops) W)
    ∗ (bigSep Finset.univ (sendSt c ops)) ∗ (bigSep Finset.univ (recvSt c ops))
    ∗ (bigSep Finset.univ (keepSt m c ops)) ∗ (bigSep Finset.univ (lendSt m c ops)))

/-- Taking one summand out and putting another in its place. -/
theorem bigSep_at {I : Type} [Fintype I] [DecidableEq I] (x : I) (Φ Ψ : I → sProp 𝕄) (h : ∀ y, y ≠ x → Φ y = Ψ y)
    {A B : sProp 𝕄} (hA : Φ x = A) (hB : Ψ x = B) :
    bigSep Finset.univ Φ ⊢ iprop(A ∗ (B -∗ bigSep Finset.univ Ψ)) := by
  subst hA; subst hB
  rw [bigSep_univ_split x (Φ := Φ), bigSep_univ_split x (Φ := Ψ), bigSep_congr (fun y hy => h y (Finset.ne_of_mem_erase hy))]
  show iprop(Φ x ∗ bigSep (Finset.univ.erase x) Ψ) ⊢ iprop(Φ x ∗ (Ψ x -∗ (Ψ x ∗ bigSep (Finset.univ.erase x) Ψ)))
  iintro ⟨Hx, Hr⟩
  isplitl [Hx]; · iexact Hx
  iintro Hx'
  isplitl [Hx']; · iexact Hx'
  iexact Hr
theorem bigSep_same {I : Type} [Fintype I] [DecidableEq I] (Φ Ψ : I → sProp 𝕄) (h : ∀ y, Φ y = Ψ y) :
    bigSep Finset.univ Φ ⊢ bigSep Finset.univ Ψ := Entails.of_eq (bigSep_congr fun y _ => h y)
/-- Two summands at once, put back as they were. -/
theorem bigSep_two {I : Type} [Fintype I] [DecidableEq I] (x x' : I) (hx : x ≠ x') (Φ : I → sProp 𝕄)
    {A B : sProp 𝕄} (hA : Φ x = A) (hB : Φ x' = B) :
    bigSep Finset.univ Φ ⊢ iprop(A ∗ B ∗ (A -∗ B -∗ bigSep Finset.univ Φ)) := by
  subst hA; subst hB
  rw [bigSep_univ_split x (Φ := Φ), bigSep_erase (Finset.mem_erase.mpr ⟨hx.symm, Finset.mem_univ x'⟩)]
  show iprop(Φ x ∗ Φ x' ∗ bigSep ((Finset.univ.erase x).erase x') Φ) ⊢ iprop(Φ x ∗ Φ x' ∗ (Φ x -∗ Φ x' -∗ (Φ x ∗ Φ x' ∗ bigSep ((Finset.univ.erase x).erase x') Φ)))
  iintro ⟨Hx, Hx', Hr⟩
  isplitl [Hx]; · iexact Hx
  isplitl [Hx']; · iexact Hx'
  iintro H1
  iintro H2
  isplitl [H1]; · iexact H1
  isplitl [H2]; · iexact H2
  iexact Hr

/-! ## The steps' rules -/

abbrev 𝒱₀ : Variants := Variants.none

section Steps

variable (K : Dev nD × CK → ℕ) (c : Dev nD) (ops : List Op)

theorem mem_send_send (x y : Xf) (h : y ≠ x) : (Op.send y ∈ Op.send x :: ops) = (Op.send y ∈ ops) := by
  rw [List.mem_cons]; exact propext ⟨fun h' => h'.elim (fun e => absurd (Op.send.inj e) h) id, Or.inr⟩
theorem mem_recv_recv (x y : Xf) (h : y ≠ x) : (Op.recv y ∈ Op.recv x :: ops) = (Op.recv y ∈ ops) := by
  rw [List.mem_cons]; exact propext ⟨fun h' => h'.elim (fun e => absurd (Op.recv.inj e) h) id, Or.inr⟩
theorem mem_swait_swait (x y : Xf) (h : y ≠ x) : (Op.swait y ∈ Op.swait x :: ops) = (Op.swait y ∈ ops) := by
  rw [List.mem_cons]; exact propext ⟨fun h' => h'.elim (fun e => absurd (Op.swait.inj e) h) id, Or.inr⟩
theorem mem_other {o o' : Op} (h : o ≠ o') : (o ∈ o' :: ops) = (o ∈ ops) := by
  rw [List.mem_cons]; exact propext ⟨fun h' => h'.elim (fun e => absurd e h) id, Or.inr⟩

theorem inX_dstP (x : Xf) : inX (dstP x) = some x := (inX_iff _ _).mpr rfl
theorem outX_srcP (x : Xf) : outX (srcP x) = some x := (outX_iff _ _).mpr rfl
theorem dstP_inj {x y : Xf} (h : dstP x = dstP y) : x = y := Option.some.inj ((inX_dstP x).symm.trans ((congrArg inX h).trans (inX_dstP y)))
theorem srcP_inj {x y : Xf} (h : srcP x = srcP y) : x = y := Option.some.inj ((outX_srcP x).symm.trans ((congrArg outX h).trans (outX_srcP y)))

theorem arr_of_not_recv {o : Op} (h : ∀ x, o ≠ .recv x) (y : Pc) : arr (o :: ops) y = arr ops y := by
  unfold arr
  rcases hy : inX y with _ | x
  · rfl
  · show (!decide (Op.recv x ∈ o :: ops)) = !decide (Op.recv x ∈ ops)
    congr 1; exact decide_eq_decide.mpr (Iff.of_eq (mem_other ops (h x).symm))
theorem free_of_not_copy {o : Op} (h : ∀ x, o ≠ .send x) (h' : ∀ x, o ≠ .swait x) (y : Pc) : free (o :: ops) y = free ops y := by
  unfold free
  rcases hy : outX y with _ | x
  · rfl
  · show (decide (Op.send x ∈ o :: ops) || !decide (Op.swait x ∈ o :: ops)) = (decide (Op.send x ∈ ops) || !decide (Op.swait x ∈ ops))
    congr 1
    · exact decide_eq_decide.mpr (Iff.of_eq (mem_other ops (h x).symm))
    · congr 1; exact decide_eq_decide.mpr (Iff.of_eq (mem_other ops (h' x).symm))
theorem arr_recv_ne (x : Xf) (y : Pc) (h : y ≠ dstP x) : arr (.recv x :: ops) y = arr ops y := by
  unfold arr
  rcases hy : inX y with _ | x'
  · rfl
  · show (!decide (Op.recv x' ∈ Op.recv x :: ops)) = !decide (Op.recv x' ∈ ops)
    congr 1; exact decide_eq_decide.mpr (Iff.of_eq (mem_recv_recv ops x x' fun e => h (by rw [(inX_iff y x').mp hy, e])))
theorem arr_recv_self (x : Xf) : arr (.recv x :: ops) (dstP x) = false := by
  unfold arr; rw [inX_dstP]
  show (!decide (Op.recv x ∈ Op.recv x :: ops)) = false
  rw [decide_eq_true List.mem_cons_self]; rfl
theorem arr_dst (x : Xf) (h : Op.recv x ∉ ops) : arr ops (dstP x) = true := by
  unfold arr; rw [inX_dstP]
  show (!decide (Op.recv x ∈ ops)) = true
  rw [decide_eq_false h]; rfl
theorem free_send_ne (x : Xf) (y : Pc) (h : y ≠ srcP x) : free (.send x :: ops) y = free ops y := by
  unfold free
  rcases hy : outX y with _ | x'
  · rfl
  · show (decide (Op.send x' ∈ Op.send x :: ops) || !decide (Op.swait x' ∈ Op.send x :: ops)) = _
    have hx : x' ≠ x := fun e => h (by rw [(outX_iff y x').mp hy, e])
    rw [decide_eq_decide.mpr (Iff.of_eq (mem_send_send ops x x' hx)), decide_eq_decide.mpr (Iff.of_eq (mem_other ops (o := .swait x') (o' := .send x) (fun e => by cases e)))]
theorem free_swait_ne (x : Xf) (y : Pc) (h : y ≠ srcP x) : free (.swait x :: ops) y = free ops y := by
  unfold free
  rcases hy : outX y with _ | x'
  · rfl
  · show (decide (Op.send x' ∈ Op.swait x :: ops) || !decide (Op.swait x' ∈ Op.swait x :: ops)) = _
    have hx : x' ≠ x := fun e => h (by rw [(outX_iff y x').mp hy, e])
    rw [decide_eq_decide.mpr (Iff.of_eq (mem_swait_swait ops x x' hx)), decide_eq_decide.mpr (Iff.of_eq (mem_other ops (o := .send x') (o' := .swait x) (fun e => by cases e)))]
theorem free_src (x : Xf) : free ops (srcP x) = (decide (Op.send x ∈ ops) || !decide (Op.swait x ∈ ops)) := by
  unfold free; rw [outX_srcP]

theorem sendSt_eq {ops ops' : List Op} {y : Xf} (h : (Op.send y ∈ ops) = (Op.send y ∈ ops')) (h' : (Op.swait y ∈ ops) = (Op.swait y ∈ ops')) :
    sendSt (F := F) c ops y = sendSt c ops' y := by unfold sendSt; simp only [h, h']
theorem recvSt_eq {ops ops' : List Op} {y : Xf} (h : (Op.recv y ∈ ops) = (Op.recv y ∈ ops')) : recvSt (F := F) c ops y = recvSt c ops' y := by
  unfold recvSt; simp only [h]
theorem keepSt_eq {ops ops' : List Op} {y : Pc} (h : arr ops y = arr ops' y) : keepSt m c ops y = keepSt m c ops' y := by unfold keepSt; rw [h]
theorem lendSt_eq {ops ops' : List Op} {y : Pc} (h : arr ops y = arr ops' y) (h' : free ops y = free ops' y) : lendSt m c ops y = lendSt m c ops' y := by
  unfold lendSt; rw [h, h']
theorem keepSt_there {ops : List Op} {y : Pc} (h : arr ops y = true) : keepSt m c ops y = full m c keep y := if_pos h
theorem lendSt_there {ops : List Op} {y : Pc} (h : arr ops y = true) (h' : free ops y = true) : lendSt m c ops y = full m c lend y := if_pos (by rw [h, h']; rfl)
theorem keepSt_not {ops : List Op} {y : Pc} (h : arr ops y = false) : keepSt m c ops y = iprop(emp) := if_neg (by rw [h]; decide)
theorem lendSt_not {ops : List Op} {y : Pc} (h : arr ops y = false ∨ free ops y = false) : lendSt m c ops y = iprop(emp) :=
  if_neg (by rcases h with h | h <;> simp [h])

theorem ok_head {o : Op} {t : List Op} (h : ok (o :: t) = true) : okAt o t = true ∧ ok t = true := by
  have h' : (okAt o t && ok t) = true := h
  exact (Bool.and_eq_true _ _).mp h'

set_option maxRecDepth 100000 in
theorem mayWait_recv (x : Xf) (h3 : (ops.all fun o => match o with | .send y => decide (hop x < hop y) | _ => true) = true) :
    records (F := F) m K ⊢ MayWait (c : Thread nD τ) (.dma (rcvS x)) () (owed c ops) :=
  (rec_lev m K).trans (mayWait_of c (.dma (rcvS x)) (hop x + 2) (lv_rcv c x) (owed c ops) (fun g u hg => by
    obtain ⟨y, hy, rfl⟩ := owed_pos c ops g u hg
    refine ⟨rfl, ?_⟩
    have h4 : hop x < hop y := of_decide_eq_true (List.all_eq_true.mp h3 _ hy)
    rw [show lv (rcvCell (tgt c y) y) u = _ from lv_rcv (tgt c y) y]; omega))
set_option maxRecDepth 100000 in
theorem mayWait_swait (x : Xf) : records (F := F) m K ⊢ MayWait (c : Thread nD τ) (.dma (sndS x)) () (owed c ops) :=
  (rec_lev m K).trans (mayWait_of c (.dma (sndS x)) 0 (lv_snd c x) (owed c ops) (fun g u hg => by
    obtain ⟨y, hy, rfl⟩ := owed_pos c ops g u hg
    refine ⟨rfl, ?_⟩
    rw [show lv (rcvCell (tgt c y) y) u = _ from lv_rcv (tgt c y) y]; omega))
set_option maxRecDepth 100000 in
theorem mayWait_bar : records (F := F) m K ⊢ MayWait (c : Thread nD τ) (.reg barS) () (owed c ops) :=
  (rec_lev m K).trans (mayWait_of c (.reg barS) 1 (lv_bar c) (owed c ops) (fun g u hg => by
    obtain ⟨y, hy, rfl⟩ := owed_pos c ops g u hg
    refine ⟨rfl, ?_⟩
    rw [show lv (rcvCell (tgt c y) y) u = _ from lv_rcv (tgt c y) y]; omega))

/-- A copy started. -/
theorem step_send (R : sProp 𝕄) {α : Type} {Q : α → sProp 𝕄} (x : Xf) {n : Dev nD} (hn : n = tgt c x) {hsc : (pieceM (dstP x)).view.ref.isScScratch = false}
    {hsrc : (pieceM (srcP x)).view.WordExact} {hdst : (pieceM (dstP x)).view.WordExact}
    {hsem : DmaTarget.Typed .vmem (.dma (rcvS x)) (.remote (Dev.tc n : Thread nD τ) (pieceM (dstP x)) (.dma (sndS x)) hsc)}
    {k : PUnit → Prog (TpuEff nD τ sig (Elt F) Λ₀ .tc) α}
    (h : iprop(St m K c ops ∗ R) ⊢ wp frame (wpE (defs₀ (F := F)) 𝒱₀ (c : Thread nD τ) none) Set.univ (k ⟨⟩) Q) :
    iprop(St m K c (.send x :: ops) ∗ R) ⊢ wp frame (wpE (defs₀ (F := F)) 𝒱₀ (c : Thread nD τ) none) Set.univ
      (.op (.enqueueDma (pieceM (srcP x)) (.remote (Dev.tc n : Thread nD τ) (pieceM (dstP x)) (.dma (sndS x)) hsc) (.dma (rcvS x)) hsrc hdst hsem) k) Q := by
  subst hn
  unfold St
  iintro ⟨⟨%hok, #Hrec, ⟨%W, HO⟩, Hs, Hr, Hk, Hl⟩, HR⟩
  obtain ⟨ho, hok'⟩ := ok_head hok
  have ho' : (!decide (Op.send x ∈ ops) && decide (Op.swait x ∈ ops) && arr ops (srcP x)) = true := ho
  simp only [Bool.and_eq_true, Bool.not_eq_true', decide_eq_false_iff_not, decide_eq_true_eq] at ho'
  obtain ⟨⟨h1, h2⟩, h3⟩ := ho'
  have harr : ∀ y, arr (.send x :: ops) y = arr ops y := arr_of_not_recv ops (fun _ e => by cases e)
  ihave Hs' := (bigSep_at x (sendSt (F := F) c (.send x :: ops)) (sendSt c ops) (fun y hy => sendSt_eq c (mem_send_send ops x y hy)
    (mem_other ops (o := .swait y) (o' := .send x) (fun e => by cases e)))
    (if_pos List.mem_cons_self) ((if_neg h1).trans (if_pos h2))) $$ Hs
  icases Hs' with ⟨Hx, Hs⟩
  ihave Hl' := (bigSep_at (srcP x) (lendSt m c (.send x :: ops)) (lendSt m c ops) (fun y hy => lendSt_eq m c (harr y) (free_send_ne ops x y hy))
    (lendSt_there m c ((harr _).trans h3) (by rw [free_src, decide_eq_true List.mem_cons_self]; rfl))
    (lendSt_not m c (.inr (by rw [free_src, decide_eq_false h1, decide_eq_true h2]; rfl)))) $$ Hl
  icases Hl' with ⟨Hy, Hl⟩
  ihave Hk := (bigSep_same (keepSt m c (.send x :: ops)) (keepSt m c ops) (fun y => keepSt_eq m c (harr y))) $$ Hk
  ihave Hr := (bigSep_same (recvSt (F := F) c (.send x :: ops)) (recvSt c ops) (fun y => recvSt_eq c (mem_other ops (o := .recv y) (o' := .send x) (fun e => by cases e)))) $$ Hr
  icases Hx with ⟨Hroom, Ht1, Ht2, Hat⟩
  unfold room full
  icases Hroom with ⟨%fd, Hroom⟩
  iapply (Rounds.wp_send_pointsTo 𝒱₀ ER (ringRd m) (c : Thread nD τ) none (sem := .dma (rcvS x)) (κ₁ := K (c, some (x, false))) (κ₂ := K (tgt c x, some (x, true)))
    (r₁ := 0) (r₂ := 0) (d₁ := false) (d₂ := false) (fd := fd)
    (by rw [duties_dma]; exact Finset.mem_singleton_self _) (by rw [duties_dma]; exact Finset.mem_singleton_self _)
    () () N (credit_piece _) rfl rfl (owed c ops) rfl (W := W)
    (Entails.of_eq (payload_snd m c x false).symm)
    (Entails.of_eq ((pointsTo_congr (landing m c x fd)).trans (payload_rcv m (tgt c x) x false).symm))) $$ [HO Hy Hroom Ht1 Ht2]
  · isplitr; · iapply (rec_inv m K c (some (x, false))); iexact Hrec
    isplitr; · iapply (rec_inv m K (tgt c x) (some (x, true))); iexact Hrec
    isplitl [Hy]; · iexact Hy
    isplitl [Hroom]; · iexact Hroom
    isplitl [HO]; · iexact HO
    isplitl [Ht1]; · iexact Ht1
    isplitr; · iapply (rec_reached m K c (some (x, false))); iexact Hrec
    isplitl [Ht2]; · iexact Ht2
    iapply (rec_reached m K (tgt c x) (some (x, true))); iexact Hrec
  iintro ⟨Hc, HO⟩
  iapply h
  unfold St
  isplitr [HR]
  · isplitr; · ipureintro; exact hok'
    isplitr; · iexact Hrec
    isplitl [HO]; · iexists W; iexact HO
    isplitl [Hs Hc Hat]
    · iapply Hs; isplitl [Hc]; · iexact Hc
      iexact Hat
    isplitl [Hr]; · iexact Hr
    isplitl [Hk]; · iexact Hk
    iapply Hl; iempintro
  · iexact HR

/-- A copy's arrival awaited. -/
theorem step_recv (R : sProp 𝕄) {α : Type} {Q : α → sProp 𝕄} (x : Xf) {s' : Shape} {e' : EltTy} {src : Memref sig .tc .vmem s' e'}
    {hsrc : src.view.WordExact} {hdst : (pieceM (dstP x)).view.WordExact}
    {k : PUnit → Prog (TpuEff nD τ sig (Elt F) Λ₀ .tc) α}
    (h : iprop(St m K c ops ∗ R) ⊢ wp frame (wpE (defs₀ (F := F)) 𝒱₀ (c : Thread nD τ) none) Set.univ (k ⟨⟩) Q) :
    iprop(St m K c (.recv x :: ops) ∗ R) ⊢ wp frame (wpE (defs₀ (F := F)) 𝒱₀ (c : Thread nD τ) none) Set.univ
      (.op (.waitDma2 (rcvS x) src (pieceM (dstP x)) hsrc hdst) k) Q := by
  unfold St
  iintro ⟨⟨%hok, #Hrec, ⟨%W, HO⟩, Hs, Hr, Hk, Hl⟩, HR⟩
  obtain ⟨ho, hok'⟩ := ok_head hok
  have ho' : (!decide (Op.recv x ∈ ops) && free ops (dstP x) && ops.all fun o => match o with | .send y => decide (hop x < hop y) | _ => true) = true := ho
  simp only [Bool.and_eq_true, Bool.not_eq_true', decide_eq_false_iff_not] at ho'
  obtain ⟨⟨h1, h2⟩, h3⟩ := ho'
  have hfree : ∀ y, free (.recv x :: ops) y = free ops y := free_of_not_copy ops (fun _ e => by cases e) (fun _ e => by cases e)
  ihave Hs := (bigSep_same (sendSt (F := F) c (.recv x :: ops)) (sendSt c ops) (fun y => sendSt_eq c (mem_other ops (o := .send y) (o' := .recv x) (fun e => by cases e))
    (mem_other ops (o := .swait y) (o' := .recv x) (fun e => by cases e)))) $$ Hs
  ihave Hr' := (bigSep_at x (recvSt (F := F) c (.recv x :: ops)) (recvSt c ops) (fun y hy => recvSt_eq c (mem_recv_recv ops x y hy))
    (if_pos List.mem_cons_self) (if_neg h1)) $$ Hr
  icases Hr' with ⟨Hx, Hr⟩
  ihave Hk' := (bigSep_at (dstP x) (keepSt m c (.recv x :: ops)) (keepSt m c ops) (fun y hy => keepSt_eq m c (arr_recv_ne ops x y hy))
    rfl (keepSt_there m c (arr_dst ops x h1))) $$ Hk
  icases Hk' with ⟨-, Hk⟩
  ihave Hl' := (bigSep_at (dstP x) (lendSt m c (.recv x :: ops)) (lendSt m c ops) (fun y hy => lendSt_eq m c (arr_recv_ne ops x y hy) (hfree y))
    rfl (lendSt_there m c (arr_dst ops x h1) h2)) $$ Hl
  icases Hl' with ⟨-, Hl⟩
  rw [show owed c (.recv x :: ops) = owed c ops from rfl]
  icases Hx with ⟨Hc, Hat⟩
  ihave Hc := (Entails.of_eq (congrArg (fun n => (cred (tallyAt (rcvCell c x) () n) : sProp 𝕄)) (credit_piece (dstP x)).symm)) $$ Hc
  iapply (Rounds.wp_wait_rest_token 𝒱₀ ER (ringRd m) (c : Thread nD τ) none (κ := K (c, some (x, true)))
      (wpE_waitDma2_eq 𝒱₀ (c : Thread nD τ) none Set.univ) (Set.mem_univ _) () (O := owed c ops) (W := W) (R := 0) (m := 0) (T := ∅)
      (by rw [Nat.zero_add, expect_dma, credit_piece])) $$ [Hc HO Hat]
  · isplitr; · iapply (rec_inv m K c (some (x, true))); iexact Hrec
    isplitl [Hc]; · iexact Hc
    isplitl [HO]; · iexact HO
    isplitr
    · iapply (mayWait_recv m K c ops x h3); iexact Hrec
    iexact Hat
  iintro ⟨HO, Hat, -, Hpay⟩
  ihave Hp := (Entails.of_eq (rest_rcv m c x)) $$ Hpay
  ihave Hp := (full_halves m c (dstP x)).1 $$ Hp
  icases Hp with ⟨Hp1, Hp2⟩
  imod (Rounds.cell_close ER (ringRd m) (Set.mem_univ (K (c, some (x, true)))) (fun h => h) (R := 0 + 1) (duties_later m (rcvCell c x))) $$ [Hat] with Hz
  · isplitr; · iapply (rec_inv m K c (some (x, true))); iexact Hrec
    iexact Hat
  iapply h
  unfold St
  isplitr [HR]
  · isplitr; · ipureintro; exact hok'
    isplitr; · iexact Hrec
    isplitl [HO]; · iexists _; iexact HO
    isplitl [Hs]; · iexact Hs
    isplitl [Hr Hz]; · iapply Hr; iexact Hz
    isplitl [Hk Hp1]; · iapply Hk; iexact Hp1
    iapply Hl; iexact Hp2
  · iexact HR

/-- A copy's departure awaited. -/
theorem step_swait (R : sProp 𝕄) {α : Type} {Q : α → sProp 𝕄} (x : Xf) {s' : Shape} {e' : EltTy} {src : Memref sig .tc .vmem s' e'}
    {hsrc : src.view.WordExact} {hdst : (pieceM (srcP x)).view.WordExact}
    {k : PUnit → Prog (TpuEff nD τ sig (Elt F) Λ₀ .tc) α}
    (h : iprop(St m K c ops ∗ R) ⊢ wp frame (wpE (defs₀ (F := F)) 𝒱₀ (c : Thread nD τ) none) Set.univ (k ⟨⟩) Q) :
    iprop(St m K c (.swait x :: ops) ∗ R) ⊢ wp frame (wpE (defs₀ (F := F)) 𝒱₀ (c : Thread nD τ) none) Set.univ
      (.op (.waitDma2 (sndS x) src (pieceM (srcP x)) hsrc hdst) k) Q := by
  unfold St
  iintro ⟨⟨%hok, #Hrec, ⟨%W, HO⟩, Hs, Hr, Hk, Hl⟩, HR⟩
  obtain ⟨ho, hok'⟩ := ok_head hok
  have ho' : (!decide (Op.swait x ∈ ops) && !decide (Op.send x ∈ ops) && arr ops (srcP x)) = true := ho
  simp only [Bool.and_eq_true, Bool.not_eq_true', decide_eq_false_iff_not] at ho'
  obtain ⟨⟨h1, h2⟩, h3⟩ := ho'
  have harr : ∀ y, arr (.swait x :: ops) y = arr ops y := arr_of_not_recv ops (fun _ e => by cases e)
  ihave Hs' := (bigSep_at x (sendSt (F := F) c (.swait x :: ops)) (sendSt c ops) (fun y hy => sendSt_eq c (mem_other ops (o := .send y) (o' := .swait x) (fun e => by cases e))
    (mem_swait_swait ops x y hy))
    ((if_neg (by rw [mem_other ops (fun e => by cases e)]; exact h2)).trans (if_pos List.mem_cons_self)) ((if_neg h2).trans (if_neg h1))) $$ Hs
  icases Hs' with ⟨Hx, Hs⟩
  ihave Hr := (bigSep_same (recvSt (F := F) c (.swait x :: ops)) (recvSt c ops) (fun y => recvSt_eq c (mem_other ops (o := .recv y) (o' := .swait x) (fun e => by cases e)))) $$ Hr
  ihave Hk := (bigSep_same (keepSt m c (.swait x :: ops)) (keepSt m c ops) (fun y => keepSt_eq m c (harr y))) $$ Hk
  ihave Hl' := (bigSep_at (srcP x) (lendSt m c (.swait x :: ops)) (lendSt m c ops) (fun y hy => lendSt_eq m c (harr y) (free_swait_ne ops x y hy))
    rfl (lendSt_there m c h3 (by rw [free_src, decide_eq_false h1, decide_eq_false h2]; rfl))) $$ Hl
  icases Hl' with ⟨-, Hl⟩
  rw [show owed c (.swait x :: ops) = owed c ops from rfl]
  icases Hx with ⟨Hc, Hat⟩
  ihave Hc := (Entails.of_eq (congrArg (fun n => (cred (tallyAt (sndCell c x) () n) : sProp 𝕄)) (credit_piece (srcP x)).symm)) $$ Hc
  iapply (Rounds.wp_wait_rest_token 𝒱₀ ER (ringRd m) (c : Thread nD τ) none (κ := K (c, some (x, false)))
      (wpE_waitDma2_eq 𝒱₀ (c : Thread nD τ) none Set.univ) (Set.mem_univ _) () (O := owed c ops) (W := W) (R := 0) (m := 0) (T := ∅)
      (by rw [Nat.zero_add, expect_dma, credit_piece])) $$ [Hc HO Hat]
  · isplitr; · iapply (rec_inv m K c (some (x, false))); iexact Hrec
    isplitl [Hc]; · iexact Hc
    isplitl [HO]; · iexact HO
    isplitr
    · iapply (mayWait_swait m K c ops x); iexact Hrec
    iexact Hat
  iintro ⟨HO, Hat, -, Hpay⟩
  ihave Hp := (Entails.of_eq (rest_snd m c x)) $$ Hpay
  imod (Rounds.cell_close ER (ringRd m) (Set.mem_univ (K (c, some (x, false)))) (fun h => h) (R := 0 + 1) (duties_later m (sndCell c x))) $$ [Hat] with Hz
  · isplitr; · iapply (rec_inv m K c (some (x, false))); iexact Hrec
    iexact Hat
  iapply h
  unfold St
  isplitr [HR]
  · isplitr; · ipureintro; exact hok'
    isplitr; · iexact Hrec
    isplitl [HO]; · iexists _; iexact HO
    isplitl [Hs Hz]; · iapply Hs; iexact Hz
    isplitl [Hr]; · iexact Hr
    isplitl [Hk]; · iexact Hk
    iapply Hl; iexact Hp
  · iexact HR

end Steps

/-! ## Pieces and half slots, by coordinates -/

/-- The elements of a piece. -/
def boxR (s : Fin 9) (p : Fin 4) : Finset S9x4x4x256x64.Idx := (Rect.unit (s := S9x4x4x256x64) ![s.val, p.val, 0, 0, 0] S1x1x4x256x64.size (inbR s p)).set
theorem boxR_eq (s : Fin 9) (p : Fin 4) : (pieceM (.inl (s, p))).view.set = boxR s p := (View.set_reshape _ _).trans (View.set_slice_whole _ _)
theorem fullR_eq (c : Dev nD) (q : PosShare TreeShare) (s : Fin 9) (p : Fin 4) :
    (full m c q (.inl (s, p)) : sProp 𝕄) = (rM : Memref sig .tc .vmem S9x4x4x256x64 .bf16).view.loc (c : Thread nD τ) ↦[boxR s p]{q} contR m c :=
  congrArg (fun S : Finset S9x4x4x256x64.Idx => ((rM : Memref sig .tc .vmem S9x4x4x256x64 .bf16).view.loc (c : Thread nD τ) ↦[S]{q} contR m c : sProp 𝕄)) (boxR_eq s p)
theorem mem_pieceR (s : Fin 9) (p : Fin 4) (i : S9x4x4x256x64.Idx) :
    i ∈ boxR s p ↔ (i (0 : Fin 5)).val = s.val ∧ (i (1 : Fin 5)).val = p.val := by
  unfold boxR
  rw [Rect.mem_set_unit]
  constructor
  · intro h
    have h0 := h (0 : Fin 5)
    have h1 := h (1 : Fin 5)
    have h0' : s.val ≤ (i (0 : Fin 5)).val ∧ (i (0 : Fin 5)).val < s.val + 1 := h0
    have h1' : p.val ≤ (i (1 : Fin 5)).val ∧ (i (1 : Fin 5)).val < p.val + 1 := h1
    omega
  · rintro ⟨h0, h1⟩ a
    have h2 := (i (2 : Fin 5)).isLt
    have h3 := (i (3 : Fin 5)).isLt
    have h4 := (i (4 : Fin 5)).isLt
    fin_cases a
    · show s.val ≤ (i (0 : Fin 5)).val ∧ (i (0 : Fin 5)).val < s.val + 1; omega
    · show p.val ≤ (i (1 : Fin 5)).val ∧ (i (1 : Fin 5)).val < p.val + 1; omega
    · exact ⟨Nat.zero_le _, (Nat.zero_add 4).symm ▸ h2⟩
    · exact ⟨Nat.zero_le _, (Nat.zero_add 256).symm ▸ h3⟩
    · exact ⟨Nat.zero_le _, (Nat.zero_add 64).symm ▸ h4⟩

/-- The elements of a piece. -/
def boxL (s : Fin 8) (p : Fin 4) : Finset S8x4x4x256x64.Idx := (Rect.unit (s := S8x4x4x256x64) ![s.val, p.val, 0, 0, 0] S1x1x4x256x64.size (inbL s p)).set
theorem boxL_eq (s : Fin 8) (p : Fin 4) : (pieceM (.inr (s, p))).view.set = boxL s p := (View.set_reshape _ _).trans (View.set_slice_whole _ _)
theorem fullL_eq (c : Dev nD) (q : PosShare TreeShare) (s : Fin 8) (p : Fin 4) :
    (full m c q (.inr (s, p)) : sProp 𝕄) = (lM : Memref sig .tc .vmem S8x4x4x256x64 .bf16).view.loc (c : Thread nD τ) ↦[boxL s p]{q} contL m c :=
  congrArg (fun S : Finset S8x4x4x256x64.Idx => ((lM : Memref sig .tc .vmem S8x4x4x256x64 .bf16).view.loc (c : Thread nD τ) ↦[S]{q} contL m c : sProp 𝕄)) (boxL_eq s p)
theorem mem_pieceL (s : Fin 8) (p : Fin 4) (i : S8x4x4x256x64.Idx) :
    i ∈ boxL s p ↔ (i (0 : Fin 5)).val = s.val ∧ (i (1 : Fin 5)).val = p.val := by
  unfold boxL
  rw [Rect.mem_set_unit]
  constructor
  · intro h
    have h0 := h (0 : Fin 5)
    have h1 := h (1 : Fin 5)
    have h0' : s.val ≤ (i (0 : Fin 5)).val ∧ (i (0 : Fin 5)).val < s.val + 1 := h0
    have h1' : p.val ≤ (i (1 : Fin 5)).val ∧ (i (1 : Fin 5)).val < p.val + 1 := h1
    omega
  · rintro ⟨h0, h1⟩ a
    have h2 := (i (2 : Fin 5)).isLt
    have h3 := (i (3 : Fin 5)).isLt
    have h4 := (i (4 : Fin 5)).isLt
    fin_cases a
    · show s.val ≤ (i (0 : Fin 5)).val ∧ (i (0 : Fin 5)).val < s.val + 1; omega
    · show p.val ≤ (i (1 : Fin 5)).val ∧ (i (1 : Fin 5)).val < p.val + 1; omega
    · exact ⟨Nat.zero_le _, (Nat.zero_add 4).symm ▸ h2⟩
    · exact ⟨Nat.zero_le _, (Nat.zero_add 256).symm ▸ h3⟩
    · exact ⟨Nat.zero_le _, (Nat.zero_add 64).symm ▸ h4⟩

theorem inbHR (s : Fin 9) (h : Fin 2) : ∀ a, (![s.val, 2 * h.val, 0, 0, 0] : Fin 5 → Nat) a + S1x2x4x256x64.size a ≤ S9x4x4x256x64.size a := by
  revert s h; decide
theorem inbHL (s : Fin 8) (h : Fin 2) : ∀ a, (![s.val, 2 * h.val, 0, 0, 0] : Fin 5 → Nat) a + S1x2x4x256x64.size a ≤ S8x4x4x256x64.size a := by
  revert s h; decide

/-- Half a slot: its keys (0) or its values (1). -/
abbrev halfR (s : Fin 9) (h : Fin 2) : Rect S9x4x4x256x64 := Rect.unit (s := S9x4x4x256x64) ![s.val, 2 * h.val, 0, 0, 0] S1x2x4x256x64.size (inbHR s h)
abbrev halfL (s : Fin 8) (h : Fin 2) : Rect S8x4x4x256x64 := Rect.unit (s := S8x4x4x256x64) ![s.val, 2 * h.val, 0, 0, 0] S1x2x4x256x64.size (inbHL s h)

theorem half_subR (s : Fin 9) (h : Fin 2) : (rM : Memref sig .tc .vmem S9x4x4x256x64 .bf16).view.setOn (halfR s h).toLoadRect.set
    ⊆ boxR s ⟨2 * h.val, by omega⟩ ∪ boxR s ⟨2 * h.val + 1, by omega⟩ := by
  intro i hi
  rw [show (rM : Memref sig .tc .vmem S9x4x4x256x64 .bf16).view.setOn (halfR s h).toLoadRect.set = (halfR s h).set from
    Finset.map_refl] at hi
  have hm := Rect.mem_set_unit.mp hi
  have h0 : s.val ≤ (i (0 : Fin 5)).val ∧ (i (0 : Fin 5)).val < s.val + 1 := hm (0 : Fin 5)
  have h1 : 2 * h.val ≤ (i (1 : Fin 5)).val ∧ (i (1 : Fin 5)).val < 2 * h.val + 2 := hm (1 : Fin 5)
  rcases Nat.lt_or_ge (i (1 : Fin 5)).val (2 * h.val + 1) with hc | hc
  · refine Finset.mem_union_left _ ((mem_pieceR s _ i).mpr ⟨by omega, ?_⟩)
    show _ = 2 * h.val; omega
  · refine Finset.mem_union_right _ ((mem_pieceR s _ i).mpr ⟨by omega, ?_⟩)
    show _ = 2 * h.val + 1; omega
theorem half_subL (s : Fin 8) (h : Fin 2) : (lM : Memref sig .tc .vmem S8x4x4x256x64 .bf16).view.setOn (halfL s h).toLoadRect.set
    ⊆ boxL s ⟨2 * h.val, by omega⟩ ∪ boxL s ⟨2 * h.val + 1, by omega⟩ := by
  intro i hi
  rw [show (lM : Memref sig .tc .vmem S8x4x4x256x64 .bf16).view.setOn (halfL s h).toLoadRect.set = (halfL s h).set from
    Finset.map_refl] at hi
  have hm := Rect.mem_set_unit.mp hi
  have h0 : s.val ≤ (i (0 : Fin 5)).val ∧ (i (0 : Fin 5)).val < s.val + 1 := hm (0 : Fin 5)
  have h1 : 2 * h.val ≤ (i (1 : Fin 5)).val ∧ (i (1 : Fin 5)).val < 2 * h.val + 2 := hm (1 : Fin 5)
  rcases Nat.lt_or_ge (i (1 : Fin 5)).val (2 * h.val + 1) with hc | hc
  · refine Finset.mem_union_left _ ((mem_pieceL s _ i).mpr ⟨by omega, ?_⟩)
    show _ = 2 * h.val; omega
  · refine Finset.mem_union_right _ ((mem_pieceL s _ i).mpr ⟨by omega, ?_⟩)
    show _ = 2 * h.val + 1; omega

theorem piece_disjR (s s' : Fin 9) (p p' : Fin 4) (h : (s, p) ≠ (s', p')) :
    Disjoint (boxR s p) (boxR s' p') := by
  rw [Finset.disjoint_left]
  intro i hi hi'
  have h1 := (mem_pieceR s p i).mp hi
  have h2 := (mem_pieceR s' p' i).mp hi'
  exact h (Prod.ext (Fin.ext (h1.1.symm.trans h2.1)) (Fin.ext (h1.2.symm.trans h2.2)))
theorem piece_disjL (s s' : Fin 8) (p p' : Fin 4) (h : (s, p) ≠ (s', p')) :
    Disjoint (boxL s p) (boxL s' p') := by
  rw [Finset.disjoint_left]
  intro i hi hi'
  have h1 := (mem_pieceL s p i).mp hi
  have h2 := (mem_pieceL s' p' i).mp hi'
  exact h (Prod.ext (Fin.ext (h1.1.symm.trans h2.1)) (Fin.ext (h1.2.symm.trans h2.2)))

/-- What a device reads from half a slot. -/
def rdR (c : Dev nD) (s : Fin 9) (h : Fin 2) : S1x2x4x256x64.Idx → Elt F .bf16 :=
  (rM : Memref sig .tc .vmem S9x4x4x256x64 .bf16).view.readAt (Elt F) (halfR s h).toLoadRect (contR m c)
def rdL (c : Dev nD) (s : Fin 8) (h : Fin 2) : S1x2x4x256x64.Idx → Elt F .bf16 :=
  (lM : Memref sig .tc .vmem S8x4x4x256x64 .bf16).view.readAt (Elt F) (halfL s h).toLoadRect (contL m c)

section Loads

variable (K : Dev nD × CK → ℕ) (c : Dev nD) (ops : List Op)

/-- Half a slot of `rbuf` read. -/
theorem step_ldR (R : sProp 𝕄) {α : Type} {Q : α → sProp 𝕄} (s : Fin 9) (h : Fin 2)
    {hl : (rM : Memref sig .tc .vmem S9x4x4x256x64 .bf16).view.LoadsAt (halfR s h).toLoadRect}
    {k : (S1x2x4x256x64.Idx → Elt F .bf16) → Prog (TpuEff nD τ sig (Elt F) Λ₀ .tc) α}
    (hk : iprop(St m K c ops ∗ R) ⊢ wp frame (wpE (defs₀ (F := F)) 𝒱₀ (c : Thread nD τ) none) Set.univ (k (rdR m c s h)) Q) :
    iprop(St m K c (.ldR s h :: ops) ∗ R) ⊢ wp frame (wpE (defs₀ (F := F)) 𝒱₀ (c : Thread nD τ) none) Set.univ
      (.op (.load (rM : Memref sig .tc .vmem S9x4x4x256x64 .bf16) (halfR s h).toLoadRect hl) k) Q := by
  unfold St
  iintro ⟨⟨%hok, #Hrec, ⟨%W, HO⟩, Hs, Hr, Hk, Hl⟩, HR⟩
  obtain ⟨ho, hok'⟩ := ok_head hok
  have ho' : (arr ops (pR s h 0) && arr ops (pR s h 1)) = true := ho
  simp only [Bool.and_eq_true] at ho'
  obtain ⟨h1, h2⟩ := ho'
  have harr : ∀ y, arr (.ldR s h :: ops) y = arr ops y := arr_of_not_recv ops (fun _ e => by cases e)
  have hfree : ∀ y, free (.ldR s h :: ops) y = free ops y := free_of_not_copy ops (fun _ e => by cases e) (fun _ e => by cases e)
  ihave Hs := (bigSep_same (sendSt (F := F) c (.ldR s h :: ops)) (sendSt c ops) (fun y => sendSt_eq c (mem_other ops (fun e => by cases e)) (mem_other ops (fun e => by cases e)))) $$ Hs
  ihave Hr := (bigSep_same (recvSt (F := F) c (.ldR s h :: ops)) (recvSt c ops) (fun y => recvSt_eq c (mem_other ops (fun e => by cases e)))) $$ Hr
  ihave Hl := (bigSep_same (lendSt m c (.ldR s h :: ops)) (lendSt m c ops) (fun y => lendSt_eq m c (harr y) (hfree y))) $$ Hl
  ihave Hk := (bigSep_same (keepSt m c (.ldR s h :: ops)) (keepSt m c ops) (fun y => keepSt_eq m c (harr y))) $$ Hk
  have hne : pR s h 0 ≠ pR s h 1 := fun e => by
    have := congrArg Fin.val (Prod.mk.inj (Sum.inl.inj e)).2
    have : 2 * h.val + 0 = 2 * h.val + 1 := this
    omega
  ihave Hk' := (bigSep_two (pR s h 0) (pR s h 1) hne (keepSt m c ops)
    ((keepSt_there m c h1).trans (fullR_eq m c keep s _)) ((keepSt_there m c h2).trans (fullR_eq m c keep s _))) $$ Hk
  icases Hk' with ⟨Ha, Hb, Hk⟩
  have hd : Disjoint (boxR s ⟨2 * h.val, by omega⟩) (boxR s ⟨2 * h.val + 1, by omega⟩) :=
    piece_disjR s s _ _ (fun e => hne (congrArg Sum.inl e))
  ihave Hab := (pointsTo_union (ℓ := (rM : Memref sig .tc .vmem S9x4x4x256x64 .bf16).view.loc (c : Thread nD τ)) (q := keep) (f := contR m c) hd).2 $$ [Ha Hb]
  · isplitl [Ha]; · iexact Ha
    iexact Hb
  iapply (wp_load 𝒱₀ (c : Thread nD τ) none Set.univ (m := rM) (half_subR s h)) $$ Hab
  iintro Hab
  ihave Hab' := (pointsTo_union (ℓ := (rM : Memref sig .tc .vmem S9x4x4x256x64 .bf16).view.loc (c : Thread nD τ)) (q := keep) (f := contR m c) hd).1 $$ Hab
  icases Hab' with ⟨Ha, Hb⟩
  iapply hk
  unfold St
  isplitr [HR]
  · isplitr; · ipureintro; exact hok'
    isplitr; · iexact Hrec
    isplitl [HO]; · iexists W; iexact HO
    isplitl [Hs]; · iexact Hs
    isplitl [Hr]; · iexact Hr
    isplitl [Hk Ha Hb]
    · iapply Hk $$ Ha Hb
    iexact Hl
  · iexact HR

/-- Half a slot of `lbuf` read. -/
theorem step_ldL (R : sProp 𝕄) {α : Type} {Q : α → sProp 𝕄} (s : Fin 8) (h : Fin 2)
    {hl : (lM : Memref sig .tc .vmem S8x4x4x256x64 .bf16).view.LoadsAt (halfL s h).toLoadRect}
    {k : (S1x2x4x256x64.Idx → Elt F .bf16) → Prog (TpuEff nD τ sig (Elt F) Λ₀ .tc) α}
    (hk : iprop(St m K c ops ∗ R) ⊢ wp frame (wpE (defs₀ (F := F)) 𝒱₀ (c : Thread nD τ) none) Set.univ (k (rdL m c s h)) Q) :
    iprop(St m K c (.ldL s h :: ops) ∗ R) ⊢ wp frame (wpE (defs₀ (F := F)) 𝒱₀ (c : Thread nD τ) none) Set.univ
      (.op (.load (lM : Memref sig .tc .vmem S8x4x4x256x64 .bf16) (halfL s h).toLoadRect hl) k) Q := by
  unfold St
  iintro ⟨⟨%hok, #Hrec, ⟨%W, HO⟩, Hs, Hr, Hk, Hl⟩, HR⟩
  obtain ⟨ho, hok'⟩ := ok_head hok
  have ho' : (arr ops (pL s h 0) && arr ops (pL s h 1)) = true := ho
  simp only [Bool.and_eq_true] at ho'
  obtain ⟨h1, h2⟩ := ho'
  have harr : ∀ y, arr (.ldL s h :: ops) y = arr ops y := arr_of_not_recv ops (fun _ e => by cases e)
  have hfree : ∀ y, free (.ldL s h :: ops) y = free ops y := free_of_not_copy ops (fun _ e => by cases e) (fun _ e => by cases e)
  ihave Hs := (bigSep_same (sendSt (F := F) c (.ldL s h :: ops)) (sendSt c ops) (fun y => sendSt_eq c (mem_other ops (fun e => by cases e)) (mem_other ops (fun e => by cases e)))) $$ Hs
  ihave Hr := (bigSep_same (recvSt (F := F) c (.ldL s h :: ops)) (recvSt c ops) (fun y => recvSt_eq c (mem_other ops (fun e => by cases e)))) $$ Hr
  ihave Hl := (bigSep_same (lendSt m c (.ldL s h :: ops)) (lendSt m c ops) (fun y => lendSt_eq m c (harr y) (hfree y))) $$ Hl
  ihave Hk := (bigSep_same (keepSt m c (.ldL s h :: ops)) (keepSt m c ops) (fun y => keepSt_eq m c (harr y))) $$ Hk
  have hne : pL s h 0 ≠ pL s h 1 := fun e => by
    have := congrArg Fin.val (Prod.mk.inj (Sum.inr.inj e)).2
    have : 2 * h.val + 0 = 2 * h.val + 1 := this
    omega
  ihave Hk' := (bigSep_two (pL s h 0) (pL s h 1) hne (keepSt m c ops)
    ((keepSt_there m c h1).trans (fullL_eq m c keep s _)) ((keepSt_there m c h2).trans (fullL_eq m c keep s _))) $$ Hk
  icases Hk' with ⟨Ha, Hb, Hk⟩
  have hd : Disjoint (boxL s ⟨2 * h.val, by omega⟩) (boxL s ⟨2 * h.val + 1, by omega⟩) :=
    piece_disjL s s _ _ (fun e => hne (congrArg Sum.inr e))
  ihave Hab := (pointsTo_union (ℓ := (lM : Memref sig .tc .vmem S8x4x4x256x64 .bf16).view.loc (c : Thread nD τ)) (q := keep) (f := contL m c) hd).2 $$ [Ha Hb]
  · isplitl [Ha]; · iexact Ha
    iexact Hb
  iapply (wp_load 𝒱₀ (c : Thread nD τ) none Set.univ (m := lM) (half_subL s h)) $$ Hab
  iintro Hab
  ihave Hab' := (pointsTo_union (ℓ := (lM : Memref sig .tc .vmem S8x4x4x256x64 .bf16).view.loc (c : Thread nD τ)) (q := keep) (f := contL m c) hd).1 $$ Hab
  icases Hab' with ⟨Ha, Hb⟩
  iapply hk
  unfold St
  isplitr [HR]
  · isplitr; · ipureintro; exact hok'
    isplitr; · iexact Hrec
    isplitl [HO]; · iexists W; iexact HO
    isplitl [Hs]; · iexact Hs
    isplitl [Hr]; · iexact Hr
    isplitl [Hk Ha Hb]
    · iapply Hk $$ Ha Hb
    iexact Hl
  · iexact HR

end Loads

end Cert.RingAttn

end
-- ==== Proof.Slots.lean ====
/-
# The slots at the start and at the end of the exchange

Each device fills the first slot of both its buffers from its own operands, and hands the other slots out piece by piece;
when the exchange is over, all the pieces are its own again and make up the two buffers.
-/
module

public import proofs.«01_k».proof.Proof.State

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## Cutting the buffers up -/

section Cut

variable (c : Dev nD)

theorem pair_disjR (s : Fin 9) (p p' : Fin 4) (h : p ≠ p') : Disjoint (boxR s p) (boxR s p') :=
  piece_disjR s s p p' fun e => h (Prod.mk.inj e).2
theorem pair_disjL (s : Fin 8) (p p' : Fin 4) (h : p ≠ p') : Disjoint (boxL s p) (boxL s p') :=
  piece_disjL s s p p' fun e => h (Prod.mk.inj e).2

/-- The first slot's two halves. -/
def firstR (h : Fin 2) : Finset S9x4x4x256x64.Idx := boxR 0 ⟨2 * h.val, by omega⟩ ∪ boxR 0 ⟨2 * h.val + 1, by omega⟩
def firstL (h : Fin 2) : Finset S8x4x4x256x64.Idx := boxL 0 ⟨2 * h.val, by omega⟩ ∪ boxL 0 ⟨2 * h.val + 1, by omega⟩

theorem mem_firstR (h : Fin 2) (i : S9x4x4x256x64.Idx) :
    i ∈ firstR h ↔ (i (0 : Fin 5)).val = 0 ∧ 2 * h.val ≤ (i (1 : Fin 5)).val ∧ (i (1 : Fin 5)).val < 2 * h.val + 2 := by
  unfold firstR
  rw [Finset.mem_union, mem_pieceR, mem_pieceR]
  show ((i (0 : Fin 5)).val = 0 ∧ (i (1 : Fin 5)).val = 2 * h.val) ∨ ((i (0 : Fin 5)).val = 0 ∧ (i (1 : Fin 5)).val = 2 * h.val + 1) ↔ _
  omega
theorem mem_firstL (h : Fin 2) (i : S8x4x4x256x64.Idx) :
    i ∈ firstL h ↔ (i (0 : Fin 5)).val = 0 ∧ 2 * h.val ≤ (i (1 : Fin 5)).val ∧ (i (1 : Fin 5)).val < 2 * h.val + 2 := by
  unfold firstL
  rw [Finset.mem_union, mem_pieceL, mem_pieceL]
  show ((i (0 : Fin 5)).val = 0 ∧ (i (1 : Fin 5)).val = 2 * h.val) ∨ ((i (0 : Fin 5)).val = 0 ∧ (i (1 : Fin 5)).val = 2 * h.val + 1) ↔ _
  omega

def laterR : Finset S9x4x4x256x64.Idx := Finset.univ.biUnion fun hp : Fin 8 × Fin 4 => boxR hp.1.succ hp.2
def laterL : Finset S8x4x4x256x64.Idx := Finset.univ.biUnion fun hp : Fin 7 × Fin 4 => boxL hp.1.succ hp.2

theorem mem_laterR (i : S9x4x4x256x64.Idx) : i ∈ laterR ↔ (i (0 : Fin 5)).val ≠ 0 := by
  unfold laterR
  rw [Finset.mem_biUnion]
  have h0 := (i (0 : Fin 5)).isLt
  have h1 := (i (1 : Fin 5)).isLt
  have h0' : (i (0 : Fin 5)).val < 9 := h0
  have h1' : (i (1 : Fin 5)).val < 4 := h1
  constructor
  · rintro ⟨hp, -, h⟩
    have := ((mem_pieceR _ _ i).mp h).1
    rw [this]; exact Nat.succ_ne_zero _
  · intro h
    refine ⟨(⟨(i (0 : Fin 5)).val - 1, by omega⟩, ⟨(i (1 : Fin 5)).val, h1'⟩), Finset.mem_univ _, (mem_pieceR _ _ i).mpr ⟨?_, rfl⟩⟩
    show _ = (i (0 : Fin 5)).val - 1 + 1; omega
theorem mem_laterL (i : S8x4x4x256x64.Idx) : i ∈ laterL ↔ (i (0 : Fin 5)).val ≠ 0 := by
  unfold laterL
  rw [Finset.mem_biUnion]
  have h0 := (i (0 : Fin 5)).isLt
  have h1 := (i (1 : Fin 5)).isLt
  have h0' : (i (0 : Fin 5)).val < 8 := h0
  have h1' : (i (1 : Fin 5)).val < 4 := h1
  constructor
  · rintro ⟨hp, -, h⟩
    have := ((mem_pieceL _ _ i).mp h).1
    rw [this]; exact Nat.succ_ne_zero _
  · intro h
    refine ⟨(⟨(i (0 : Fin 5)).val - 1, by omega⟩, ⟨(i (1 : Fin 5)).val, h1'⟩), Finset.mem_univ _, (mem_pieceL _ _ i).mpr ⟨?_, rfl⟩⟩
    show _ = (i (0 : Fin 5)).val - 1 + 1; omega

theorem univ_R : (Finset.univ : Finset S9x4x4x256x64.Idx) = (firstR 0 ∪ firstR 1) ∪ laterR := by
  refine (Finset.eq_univ_iff_forall.mpr fun i => ?_).symm
  rw [Finset.mem_union, Finset.mem_union, mem_firstR, mem_firstR, mem_laterR]
  have h1 := (i (1 : Fin 5)).isLt
  have h1' : (i (1 : Fin 5)).val < 4 := h1
  show ((_ ∧ 2 * 0 ≤ _ ∧ _ < 2 * 0 + 2) ∨ (_ ∧ 2 * 1 ≤ _ ∧ _ < 2 * 1 + 2)) ∨ _
  omega
theorem univ_L : (Finset.univ : Finset S8x4x4x256x64.Idx) = (firstL 0 ∪ firstL 1) ∪ laterL := by
  refine (Finset.eq_univ_iff_forall.mpr fun i => ?_).symm
  rw [Finset.mem_union, Finset.mem_union, mem_firstL, mem_firstL, mem_laterL]
  have h1 := (i (1 : Fin 5)).isLt
  have h1' : (i (1 : Fin 5)).val < 4 := h1
  show ((_ ∧ 2 * 0 ≤ _ ∧ _ < 2 * 0 + 2) ∨ (_ ∧ 2 * 1 ≤ _ ∧ _ < 2 * 1 + 2)) ∨ _
  omega
theorem first_disjR : Disjoint (firstR 0) (firstR 1) := by
  rw [Finset.disjoint_left]; intro i h h'
  have h := (mem_firstR 0 i).mp h
  have h' := (mem_firstR 1 i).mp h'
  have a : (i (1 : Fin 5)).val < 2 * 0 + 2 := h.2.2
  have b : 2 * 1 ≤ (i (1 : Fin 5)).val := h'.2.1
  omega
theorem first_disjL : Disjoint (firstL 0) (firstL 1) := by
  rw [Finset.disjoint_left]; intro i h h'
  have h := (mem_firstL 0 i).mp h
  have h' := (mem_firstL 1 i).mp h'
  have a : (i (1 : Fin 5)).val < 2 * 0 + 2 := h.2.2
  have b : 2 * 1 ≤ (i (1 : Fin 5)).val := h'.2.1
  omega
theorem later_disjR : Disjoint (firstR 0 ∪ firstR 1) laterR := by
  rw [Finset.disjoint_left]; intro i h h'
  rw [Finset.mem_union, mem_firstR, mem_firstR] at h
  exact (mem_laterR i).mp h' (h.elim (·.1) (·.1))
theorem later_disjL : Disjoint (firstL 0 ∪ firstL 1) laterL := by
  rw [Finset.disjoint_left]; intro i h h'
  rw [Finset.mem_union, mem_firstL, mem_firstL] at h
  exact (mem_laterL i).mp h' (h.elim (·.1) (·.1))

abbrev locR : Loc nD τ sig := (rM : Memref sig .tc .vmem S9x4x4x256x64 .bf16).view.loc (c : Thread nD τ)
abbrev locL : Loc nD τ sig := (lM : Memref sig .tc .vmem S8x4x4x256x64 .bf16).view.loc (c : Thread nD τ)

/-- A piece holding anything, by coordinates. -/
theorem roomR_of (s : Fin 9) (p : Fin 4) (f : Buf (Elt F) (locR c)) : (locR c ↦[boxR s p]{fullShare} f : sProp 𝕄) ⊢ room c (.inl (s, p)) := by
  have e : (locR c ↦[boxR s p]{fullShare} f : sProp 𝕄)
      = ((pieceM (.inl (s, p))).view.loc (c : Thread nD τ) ↦[(pieceM (.inl (s, p))).view.set]{fullShare} f) :=
    congrArg (fun S : Finset S9x4x4x256x64.Idx => (locR c ↦[S]{fullShare} f : sProp 𝕄)) (boxR_eq s p).symm
  unfold room
  iintro H
  iexists f
  iapply (Entails.of_eq e) $$ H
theorem roomL_of (s : Fin 8) (p : Fin 4) (f : Buf (Elt F) (locL c)) : (locL c ↦[boxL s p]{fullShare} f : sProp 𝕄) ⊢ room c (.inr (s, p)) := by
  have e : (locL c ↦[boxL s p]{fullShare} f : sProp 𝕄)
      = ((pieceM (.inr (s, p))).view.loc (c : Thread nD τ) ↦[(pieceM (.inr (s, p))).view.set]{fullShare} f) :=
    congrArg (fun S : Finset S8x4x4x256x64.Idx => (locL c ↦[S]{fullShare} f : sProp 𝕄)) (boxL_eq s p).symm
  unfold room
  iintro H
  iexists f
  iapply (Entails.of_eq e) $$ H

/-- The first slot's halves and a room for every arrival. -/
theorem cutR (f : Buf (Elt F) (locR c)) : (locR c ↦{fullShare} f : sProp 𝕄)
    ⊢ iprop((locR c ↦[firstR 0]{fullShare} f) ∗ (locR c ↦[firstR 1]{fullShare} f) ∗ bigSep Finset.univ fun hp : Fin 8 × Fin 4 => room c (dstP (.inl hp))) := by
  have e : (locR c ↦{fullShare} f : sProp 𝕄) = (locR c ↦[(firstR 0 ∪ firstR 1) ∪ laterR]{fullShare} f) :=
    congrArg (fun S : Finset S9x4x4x256x64.Idx => (locR c ↦[S]{fullShare} f : sProp 𝕄)) univ_R
  iintro H
  ihave H := (Entails.of_eq e) $$ H
  ihave H := (pointsTo_union later_disjR).1 $$ H
  icases H with ⟨H, HL⟩
  unfold laterR
  ihave H := (pointsTo_union first_disjR).1 $$ H
  icases H with ⟨H0, H1⟩
  isplitl [H0]; · iexact H0
  isplitl [H1]; · iexact H1
  ihave HL := (Entails.of_eq (pointsTo_biUnion (ℓ := locR c) (q := fullShare) (f := f) (Finset.univ : Finset (Fin 8 × Fin 4)) (fun hp => boxR hp.1.succ hp.2)
    (fun a _ b _ hab => piece_disjR _ _ _ _ fun h => hab (Prod.ext (Fin.succ_injective _ (Prod.mk.inj h).1) (Prod.mk.inj h).2)))) $$ HL
  iapply (show (bigSep Finset.univ (fun hp : Fin 8 × Fin 4 => (locR c ↦[boxR hp.1.succ hp.2]{fullShare} f : sProp 𝕄))) ⊢ _ from
    bigSep_mono fun hp _ => roomR_of (F := F) c hp.1.succ hp.2 f) $$ HL
theorem cutL (f : Buf (Elt F) (locL c)) : (locL c ↦{fullShare} f : sProp 𝕄)
    ⊢ iprop((locL c ↦[firstL 0]{fullShare} f) ∗ (locL c ↦[firstL 1]{fullShare} f) ∗ bigSep Finset.univ fun hp : Fin 7 × Fin 4 => room c (dstP (.inr hp))) := by
  have e : (locL c ↦{fullShare} f : sProp 𝕄) = (locL c ↦[(firstL 0 ∪ firstL 1) ∪ laterL]{fullShare} f) :=
    congrArg (fun S : Finset S8x4x4x256x64.Idx => (locL c ↦[S]{fullShare} f : sProp 𝕄)) univ_L
  iintro H
  ihave H := (Entails.of_eq e) $$ H
  ihave H := (pointsTo_union later_disjL).1 $$ H
  icases H with ⟨H, HL⟩
  unfold laterL
  ihave H := (pointsTo_union first_disjL).1 $$ H
  icases H with ⟨H0, H1⟩
  isplitl [H0]; · iexact H0
  isplitl [H1]; · iexact H1
  ihave HL := (Entails.of_eq (pointsTo_biUnion (ℓ := locL c) (q := fullShare) (f := f) (Finset.univ : Finset (Fin 7 × Fin 4)) (fun hp => boxL hp.1.succ hp.2)
    (fun a _ b _ hab => piece_disjL _ _ _ _ fun h => hab (Prod.ext (Fin.succ_injective _ (Prod.mk.inj h).1) (Prod.mk.inj h).2)))) $$ HL
  iapply (show (bigSep Finset.univ (fun hp : Fin 7 × Fin 4 => (locL c ↦[boxL hp.1.succ hp.2]{fullShare} f : sProp 𝕄))) ⊢ _ from
    bigSep_mono fun hp _ => roomL_of (F := F) c hp.1.succ hp.2 f) $$ HL

/-- All the pieces together are the buffer. -/
theorem joinR : bigSep Finset.univ (fun sp : Fin 9 × Fin 4 => (full m c fullShare (.inl sp) : sProp 𝕄)) ⊢ (locR c ↦{fullShare} contR m c) := by
  have e : (Finset.univ : Finset S9x4x4x256x64.Idx) = (Finset.univ : Finset (Fin 9 × Fin 4)).biUnion fun sp => boxR sp.1 sp.2 :=
    (Finset.eq_univ_iff_forall.mpr fun i => Finset.mem_biUnion.mpr ⟨(i (0 : Fin 5), i (1 : Fin 5)), Finset.mem_univ _, (mem_pieceR _ _ i).mpr ⟨rfl, rfl⟩⟩).symm
  refine (Entails.of_eq (bigSep_congr fun sp _ => fullR_eq m c fullShare sp.1 sp.2)).trans ((Entails.of_eq
    (pointsTo_biUnion (ℓ := locR c) (q := fullShare) (f := contR m c) (Finset.univ : Finset (Fin 9 × Fin 4)) (fun sp => boxR sp.1 sp.2)
    (fun a _ b _ hab => piece_disjR _ _ _ _ fun h => hab h)).symm).trans (Entails.of_eq
    (congrArg (fun S : Finset S9x4x4x256x64.Idx => (locR c ↦[S]{fullShare} contR m c : sProp 𝕄)) e.symm)))
theorem joinL : bigSep Finset.univ (fun sp : Fin 8 × Fin 4 => (full m c fullShare (.inr sp) : sProp 𝕄)) ⊢ (locL c ↦{fullShare} contL m c) := by
  have e : (Finset.univ : Finset S8x4x4x256x64.Idx) = (Finset.univ : Finset (Fin 8 × Fin 4)).biUnion fun sp => boxL sp.1 sp.2 :=
    (Finset.eq_univ_iff_forall.mpr fun i => Finset.mem_biUnion.mpr ⟨(i (0 : Fin 5), i (1 : Fin 5)), Finset.mem_univ _, (mem_pieceL _ _ i).mpr ⟨rfl, rfl⟩⟩).symm
  refine (Entails.of_eq (bigSep_congr fun sp _ => fullL_eq m c fullShare sp.1 sp.2)).trans ((Entails.of_eq
    (pointsTo_biUnion (ℓ := locL c) (q := fullShare) (f := contL m c) (Finset.univ : Finset (Fin 8 × Fin 4)) (fun sp => boxL sp.1 sp.2)
    (fun a _ b _ hab => piece_disjL _ _ _ _ fun h => hab h)).symm).trans (Entails.of_eq
    (congrArg (fun S : Finset S8x4x4x256x64.Idx => (locL c ↦[S]{fullShare} contL m c : sProp 𝕄)) e.symm)))

end Cut

/-! ## The first slot -/

section First

variable (c : Dev nD)

theorem access_subR (h : Fin 2) : ((rM : Memref sig .tc .vmem S9x4x4x256x64 .bf16).access (halfR 0 h) : View sig .tc _ _ _).setOn Finset.univ ⊆ firstR h := by
  intro i hi
  obtain ⟨j, -, rfl⟩ := Finset.mem_map.mp hi
  exact (mem_firstR h _).mpr (by
    have h0 := (j (0 : Fin 5)).isLt
    have h1 := (j (1 : Fin 5)).isLt
    have h0' : (j (0 : Fin 5)).val < 1 := h0
    have h1' : (j (1 : Fin 5)).val < 2 := h1
    show 0 + 1 * (j (0 : Fin 5)).val = 0 ∧ 2 * h.val ≤ 2 * h.val + 1 * (j (1 : Fin 5)).val ∧ 2 * h.val + 1 * (j (1 : Fin 5)).val < 2 * h.val + 2
    omega)
theorem access_subL (h : Fin 2) : ((lM : Memref sig .tc .vmem S8x4x4x256x64 .bf16).access (halfL 0 h) : View sig .tc _ _ _).setOn Finset.univ ⊆ firstL h := by
  intro i hi
  obtain ⟨j, -, rfl⟩ := Finset.mem_map.mp hi
  exact (mem_firstL h _).mpr (by
    have h0 := (j (0 : Fin 5)).isLt
    have h1 := (j (1 : Fin 5)).isLt
    have h0' : (j (0 : Fin 5)).val < 1 := h0
    have h1' : (j (1 : Fin 5)).val < 2 := h1
    show 0 + 1 * (j (0 : Fin 5)).val = 0 ∧ 2 * h.val ≤ 2 * h.val + 1 * (j (1 : Fin 5)).val ∧ 2 * h.val + 1 * (j (1 : Fin 5)).val < 2 * h.val + 2
    omega)

/-- What is stored to a half of the first slot: the device's own keys (0) or values (1). -/
def own (h : Fin 2) : S2x4x256x64.Idx → Elt F .bf16 := if h = 0 then k0_pay3 (F := F) (kstg m c) else k0_pay4 (F := F) (vstg m c)
theorem own_eq (h : Fin 2) (n : ℕ) (hn : 2 * h.val ≤ n ∧ n < 2 * h.val + 2) (a : Fin 4) (b : Fin 256) (e : Fin 64) :
    kvC m c n a b e = own m c h (ixP ⟨n % 2, Nat.mod_lt _ (by decide)⟩ a b e) := by
  unfold kvC own
  fin_cases h
  · have : n < 2 := hn.2
    rw [if_pos this]; exact congrFun (if_pos (c := ((0 : Fin 2) = 0)) rfl).symm _
  · have : 2 ≤ n := hn.1
    rw [if_neg (by omega)]; exact congrFun (if_neg (c := ((1 : Fin 2) = 0)) (by decide)).symm _

theorem storedR (h : Fin 2) (f : (cc0_scratch0 : Ref sig .tc).ty.Contents (Elt F)) (i : S9x4x4x256x64.Idx) (hi : i ∈ firstR h) :
    ((rM : Memref sig .tc .vmem S9x4x4x256x64 .bf16).access (halfR 0 h) : View sig .tc _ _ _).write (Elt F) f
      (shapeCast S1x2x4x256x64 (own m c h) shapeCasts_S2x4x256x64_S1x2x4x256x64) Finset.univ i = contR m c i := by
  have hi := (mem_firstR h i).mp hi
  let j : S1x2x4x256x64.Idx := fun
    | ⟨0, _⟩ => (⟨0, by decide⟩ : Fin 1)
    | ⟨1, _⟩ => (⟨(i (1 : Fin 5)).val - 2 * h.val, by omega⟩ : Fin 2)
    | ⟨2, _⟩ => i (2 : Fin 5)
    | ⟨3, _⟩ => i (3 : Fin 5)
    | ⟨4, _⟩ => i (4 : Fin 5)
  have hj : ((rM : Memref sig .tc .vmem S9x4x4x256x64 .bf16).access (halfR 0 h) : View sig .tc _ _ _).emb j = i := by
    funext a
    apply Fin.ext
    fin_cases a
    · show 0 + 1 * 0 = (i (0 : Fin 5)).val; omega
    · show 2 * h.val + 1 * ((i (1 : Fin 5)).val - 2 * h.val) = (i (1 : Fin 5)).val; omega
    · show 0 + 1 * (i (2 : Fin 5)).val = (i (2 : Fin 5)).val; omega
    · show 0 + 1 * (i (3 : Fin 5)).val = (i (3 : Fin 5)).val; omega
    · show 0 + 1 * (i (4 : Fin 5)).val = (i (4 : Fin 5)).val; omega
  have hw := View.write_emb_of_mem (Val := Elt F) (v := ((rM : Memref sig .tc .vmem S9x4x4x256x64 .bf16).access (halfR 0 h) : View sig .tc _ _ _)) f
    (shapeCast S1x2x4x256x64 (own m c h) shapeCasts_S2x4x256x64_S1x2x4x256x64) (Finset.mem_univ j)
  rw [hj] at hw
  refine hw.trans ?_
  refine (shapeCast_addUnit_apply _ (own m c h) _ j).trans ?_
  show _ = kvC m (back c (i (0 : Fin 5)).val) _ _ _ _
  rw [hi.1, back_zero]
  refine Eq.trans ?_ (own_eq m c h _ hi.2 (i (2 : Fin 5)) (i (3 : Fin 5)) (i (4 : Fin 5))).symm
  refine congrArg (own m c h) ?_
  funext a
  apply Fin.ext
  fin_cases a
  · show (i (1 : Fin 5)).val - 2 * h.val = (i (1 : Fin 5)).val % 2; omega
  · rfl
  · rfl
  · rfl
theorem storedL (h : Fin 2) (f : (cc0_scratch1 : Ref sig .tc).ty.Contents (Elt F)) (i : S8x4x4x256x64.Idx) (hi : i ∈ firstL h) :
    ((lM : Memref sig .tc .vmem S8x4x4x256x64 .bf16).access (halfL 0 h) : View sig .tc _ _ _).write (Elt F) f
      (shapeCast S1x2x4x256x64 (own m c h) shapeCasts_S2x4x256x64_S1x2x4x256x64) Finset.univ i = contL m c i := by
  have hi := (mem_firstL h i).mp hi
  let j : S1x2x4x256x64.Idx := fun
    | ⟨0, _⟩ => (⟨0, by decide⟩ : Fin 1)
    | ⟨1, _⟩ => (⟨(i (1 : Fin 5)).val - 2 * h.val, by omega⟩ : Fin 2)
    | ⟨2, _⟩ => i (2 : Fin 5)
    | ⟨3, _⟩ => i (3 : Fin 5)
    | ⟨4, _⟩ => i (4 : Fin 5)
  have hj : ((lM : Memref sig .tc .vmem S8x4x4x256x64 .bf16).access (halfL 0 h) : View sig .tc _ _ _).emb j = i := by
    funext a
    apply Fin.ext
    fin_cases a
    · show 0 + 1 * 0 = (i (0 : Fin 5)).val; omega
    · show 2 * h.val + 1 * ((i (1 : Fin 5)).val - 2 * h.val) = (i (1 : Fin 5)).val; omega
    · show 0 + 1 * (i (2 : Fin 5)).val = (i (2 : Fin 5)).val; omega
    · show 0 + 1 * (i (3 : Fin 5)).val = (i (3 : Fin 5)).val; omega
    · show 0 + 1 * (i (4 : Fin 5)).val = (i (4 : Fin 5)).val; omega
  have hw := View.write_emb_of_mem (Val := Elt F) (v := ((lM : Memref sig .tc .vmem S8x4x4x256x64 .bf16).access (halfL 0 h) : View sig .tc _ _ _)) f
    (shapeCast S1x2x4x256x64 (own m c h) shapeCasts_S2x4x256x64_S1x2x4x256x64) (Finset.mem_univ j)
  rw [hj] at hw
  refine hw.trans ?_
  refine (shapeCast_addUnit_apply _ (own m c h) _ j).trans ?_
  show _ = kvC m (ahead c (i (0 : Fin 5)).val) _ _ _ _
  rw [hi.1, ahead_zero]
  refine Eq.trans ?_ (own_eq m c h _ hi.2 (i (2 : Fin 5)) (i (3 : Fin 5)) (i (4 : Fin 5))).symm
  refine congrArg (own m c h) ?_
  funext a
  apply Fin.ext
  fin_cases a
  · show (i (1 : Fin 5)).val - 2 * h.val = (i (1 : Fin 5)).val % 2; omega
  · rfl
  · rfl
  · rfl

/-- A half of the first slot, filled, as its two pieces. -/
theorem filledR (h : Fin 2) (f : Buf (Elt F) (locR c)) (hf : ∀ i ∈ firstR h, f i = contR m c i) : (locR c ↦[firstR h]{fullShare} f : sProp 𝕄)
    ⊢ iprop(full m c fullShare (.inl (0, ⟨2 * h.val, by omega⟩)) ∗ full m c fullShare (.inl (0, ⟨2 * h.val + 1, by omega⟩))) := by
  rw [pointsTo_congr (g := (contR m c : Buf (Elt F) (locR c))) hf, fullR_eq, fullR_eq]
  exact (pointsTo_union (pair_disjR 0 _ _ fun e => by have := congrArg Fin.val e; have : 2 * h.val = 2 * h.val + 1 := this; omega)).1
theorem filledL (h : Fin 2) (f : Buf (Elt F) (locL c)) (hf : ∀ i ∈ firstL h, f i = contL m c i) : (locL c ↦[firstL h]{fullShare} f : sProp 𝕄)
    ⊢ iprop(full m c fullShare (.inr (0, ⟨2 * h.val, by omega⟩)) ∗ full m c fullShare (.inr (0, ⟨2 * h.val + 1, by omega⟩))) := by
  rw [pointsTo_congr (g := (contL m c : Buf (Elt F) (locL c))) hf, fullL_eq, fullL_eq]
  exact (pointsTo_union (pair_disjL 0 _ _ fun e => by have := congrArg Fin.val e; have : 2 * h.val = 2 * h.val + 1 := this; omega)).1

end First

/-! ## The pieces at the start and at the end -/

section Ends

variable (c : Dev nD)

/-- The pieces a device fills itself. -/
abbrev firsts : List Pc := [.inl (0, 0), .inl (0, 1), .inl (0, 2), .inl (0, 3), .inr (0, 0), .inr (0, 1), .inr (0, 2), .inr (0, 3)]

instance mem_firsts (y : Pc) (l : List Pc) : Decidable (y ∈ l) := @List.instDecidableMemOfLawfulBEq Pc instBEqOfDecidableEq inferInstance y l

theorem arr_prog (y : Pc) : arr prog y = decide (y ∈ firsts) := by revert y; decide +kernel
theorem free_prog (y : Pc) : free prog y = true := by revert y; decide +kernel

/-- Summands are needed on a list only, when the others are empty. -/
theorem bigSep_on {I : Type} [Fintype I] [DecidableEq I] (l : List I) (hl : l.Nodup) (Φ Ψ : I → sProp 𝕄)
    (h : ∀ y ∈ l, Φ y = Ψ y) (h' : ∀ y, y ∉ l → Φ y = iprop(emp)) : bigSepL l Ψ ⊢ bigSep Finset.univ Φ := by
  have e : Φ = fun y => if y ∈ l then Ψ y else iprop(emp) := funext fun y => by
    by_cases hy : y ∈ l
    · rw [if_pos hy, h y hy]
    · rw [if_neg hy, h' y hy]
  have e2 : (Finset.univ.filter (· ∈ l)) = l.toFinset := by ext y; simp
  rw [e]
  refine (Entails.of_eq ?_).trans (Entails.of_eq (BI.bigSep_filter Finset.univ (· ∈ l) Ψ))
  rw [e2, bigSep_eq_bigSepL l hl]

theorem start_keep : bigSepL firsts (fun y => (full m c keep y : sProp 𝕄)) ⊢ bigSep Finset.univ (keepSt m c prog) :=
  bigSep_on firsts (by decide) _ _ (fun y hy => keepSt_there m c (by rw [arr_prog]; exact decide_eq_true hy))
    (fun y hy => keepSt_not m c (by rw [arr_prog]; exact decide_eq_false hy))
theorem start_lend : bigSepL firsts (fun y => (full m c lend y : sProp 𝕄)) ⊢ bigSep Finset.univ (lendSt m c prog) :=
  bigSep_on firsts (by decide) _ _ (fun y hy => lendSt_there m c (by rw [arr_prog]; exact decide_eq_true hy) (free_prog y))
    (fun y hy => lendSt_not m c (.inl (by rw [arr_prog]; exact decide_eq_false hy)))

theorem halves_list : bigSepL firsts (fun y => (full m c fullShare y : sProp 𝕄))
    ⊢ iprop(bigSepL firsts (fun y => full m c keep y) ∗ bigSepL firsts (fun y => full m c lend y)) := by
  have hn : firsts.Nodup := by decide
  rw [← bigSep_eq_bigSepL firsts hn, ← bigSep_eq_bigSepL firsts hn, ← bigSep_eq_bigSepL firsts hn]
  exact (bigSep_mono fun y _ => (full_halves m c y).1).trans (Entails.of_eq (bigSep_sep' _ _ _))

theorem mem_send_prog (x : Xf) : Op.send x ∈ prog := by revert x; decide +kernel
theorem mem_recv_prog (x : Xf) : Op.recv x ∈ prog := by revert x; decide +kernel

/-- What a device needs of a transfer before it starts. -/
theorem start_send (x : Xf) : sendSt (F := F) c prog x
    = iprop(room (tgt c x) (dstP x) ∗ dutyTok ER (sndCell c x) 0 false ∗ dutyTok ER (rcvCell (tgt c x) x) 0 false ∗ atPos ER (sndCell c x) 0 ∅ 0) :=
  if_pos (mem_send_prog x)
theorem start_recv (x : Xf) : recvSt (F := F) c prog x = iprop(cred (tallyAt (rcvCell c x) () N) ∗ atPos ER (rcvCell c x) 0 ∅ 0) :=
  if_pos (mem_recv_prog x)

theorem end_send (x : Xf) : sendSt (F := F) c [] x = semVal (sndCell c x) 0 := (if_neg List.not_mem_nil).trans (if_neg List.not_mem_nil)
theorem end_recv (x : Xf) : recvSt (F := F) c [] x = semVal (rcvCell c x) 0 := if_neg List.not_mem_nil
theorem arr_nil (y : Pc) : arr [] y = true := by revert y; decide +kernel
theorem free_nil (y : Pc) : free [] y = true := by revert y; decide +kernel

/-- Every piece back: the two buffers. -/
theorem end_full : iprop((bigSep Finset.univ (keepSt m c [])) ∗ (bigSep Finset.univ (lendSt m c [])))
    ⊢ iprop((locR c ↦{fullShare} contR m c) ∗ (locL c ↦{fullShare} contL m c)) := by
  have e : ∀ y, iprop(keepSt m c [] y ∗ lendSt m c [] y) ⊢ (full m c fullShare y : sProp 𝕄) := fun y => by
    rw [keepSt_there m c (arr_nil y), lendSt_there m c (arr_nil y) (free_nil y)]; exact (full_halves m c y).2
  refine (Entails.of_eq (bigSep_sep' _ _ _).symm).trans ((bigSep_mono fun y _ => e y).trans ?_)
  rw [bigSep_univ_sum]
  exact BI.sep_mono (joinR m c) (joinL m c)

end Ends

end Cert.RingAttn

end
-- ==== Proof.Outcome.lean ====
/-
# What the kernel computes on one device

The accumulators after each ring step, as the kernel's own sequence of operations on the slots read, and the two rows of
blocks it writes out.
-/
module

public import proofs.«01_k».proof.Proof.Slots

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

section Values

variable (c : Dev nD)

abbrev xM : Memref sig .tc .vmem S2x256x512 .bf16 := Memref.whole cc0_stg0_0
abbrev qM : Memref sig .tc .vmem S512x256 .bf16 := Memref.whole cc0_stg1_0
abbrev kM : Memref sig .tc .vmem S2x256x4x64 .bf16 := Memref.whole cc0_stg2_0
abbrev vM : Memref sig .tc .vmem S2x256x4x64 .bf16 := Memref.whole cc0_stg3_0
abbrev wM : Memref sig .tc .vmem S256x512 .bf16 := Memref.whole cc0_stg4_0
abbrev oM : Memref sig .tc .vmem S2x256x512 .f32 := Memref.whole cc0_stg5_0

/-- A device's place, as the kernel computes it. -/
def me : BitVec 32 := Scalar.remsi (Scalar.divsi (Dev.word c) 1#32) 16#32

/-- The rows of one batch entry, of the input and of the result. -/
abbrev row0 : Rect S2x256x512 := Rect.unit (s := S2x256x512) ![0, 0, 0] S1x256x512.size inb_S2x256x512_S1x256x512_0_0_0
abbrev row1 : Rect S2x256x512 := Rect.unit (s := S2x256x512) ![1, 0, 0] S1x256x512.size inb_S2x256x512_S1x256x512_1_0_0

def xrd0 : S1x256x512.Idx → Elt F .bf16 := xM.view.readAt (Elt F) row0.toLoadRect (xstg m c)
def xrd1 : S1x256x512.Idx → Elt F .bf16 := xM.view.readAt (Elt F) row1.toLoadRect (xstg m c)

/-- The scaled queries. -/
def qv : FVec F S8x256x64 .bf16 := k0_pay9 (qstg m c) (xrd0 m c) (xrd1 m c)
/-- The block mask inside the device's own rows. -/
def mask0 : FVec F S1x256x256 .f32 :=
  k0_pay16 (k0_pay13 (k0_pay11 (iota .tc S256x256 32 [1] iota_S256x256_d1_w32) 64#32 k0_pay10) (k0_pay12 (iota .tc S256x256 32 [0] iota_S256x256_d0_w32)))

def num0 : FVec F S8x256x64 .f32 := k0_pay19 (qv m c) k0_pay14 mask0 (k0_pay17 (rdR m c 0 0)) (rdR m c 0 1)
def den0 : FVec F S8x256x1 .f32 := k0_pay20 (qv m c) k0_pay15 mask0 (k0_pay17 (rdR m c 0 0))
def numR1 : FVec F S8x256x64 .f32 := k0_pay22 (me c) (qv m c) (num0 m c) (rdR m c 1 0) (rdR m c 1 1)
def denR1 : FVec F S8x256x1 .f32 := k0_pay23 (me c) (qv m c) (den0 m c) (rdR m c 1 0)
def numL1 : FVec F S8x256x64 .f32 := k0_pay27 (qv m c) (numR1 m c) (k0_pay24 (me c)) (k0_pay25 (rdL m c 1 0)) (rdL m c 1 1)
def denL1 : FVec F S8x256x1 .f32 := k0_pay28 (qv m c) (denR1 m c) (k0_pay24 (me c)) (k0_pay25 (rdL m c 1 0))
def numR2 : FVec F S8x256x64 .f32 := k0_pay30 (me c) (qv m c) (numL1 m c) (rdR m c 2 0) (rdR m c 2 1)
def denR2 : FVec F S8x256x1 .f32 := k0_pay31 (me c) (qv m c) (denL1 m c) (rdR m c 2 0)
def numL2 : FVec F S8x256x64 .f32 := k0_pay34 (qv m c) (numR2 m c) (k0_pay32 (me c)) (rdL m c 2 0) (rdL m c 2 1)
def denL2 : FVec F S8x256x1 .f32 := k0_pay35 (qv m c) (denR2 m c) (k0_pay32 (me c)) (rdL m c 2 0)
def numR3 : FVec F S8x256x64 .f32 := k0_pay37 (me c) (qv m c) (numL2 m c) (rdR m c 3 0) (rdR m c 3 1)
def denR3 : FVec F S8x256x1 .f32 := k0_pay38 (me c) (qv m c) (denL2 m c) (rdR m c 3 0)
def numL3 : FVec F S8x256x64 .f32 := k0_pay41 (qv m c) (numR3 m c) (k0_pay39 (me c)) (rdL m c 3 0) (rdL m c 3 1)
def denL3 : FVec F S8x256x1 .f32 := k0_pay42 (qv m c) (denR3 m c) (k0_pay39 (me c)) (rdL m c 3 0)
def numR4 : FVec F S8x256x64 .f32 := k0_pay44 (me c) (qv m c) (numL3 m c) (rdR m c 4 0) (rdR m c 4 1)
def denR4 : FVec F S8x256x1 .f32 := k0_pay45 (me c) (qv m c) (denL3 m c) (rdR m c 4 0)
def numL4 : FVec F S8x256x64 .f32 := k0_pay48 (qv m c) (numR4 m c) (k0_pay46 (me c)) (rdL m c 4 0) (rdL m c 4 1)
def denL4 : FVec F S8x256x1 .f32 := k0_pay49 (qv m c) (denR4 m c) (k0_pay46 (me c)) (rdL m c 4 0)
def numR5 : FVec F S8x256x64 .f32 := k0_pay51 (me c) (qv m c) (numL4 m c) (rdR m c 5 0) (rdR m c 5 1)
def denR5 : FVec F S8x256x1 .f32 := k0_pay52 (me c) (qv m c) (denL4 m c) (rdR m c 5 0)
/-- Whether the device `s` places to the right is past the last one, that is, holds earlier rows. -/
def wraps (s : BitVec 32) : BitVec 1 := Scalar.cmpi .sge (Scalar.addi (me c) s) 16#32
def numL5 : FVec F S8x256x64 .f32 := k0_pay54 (qv m c) (numR5 m c) (wraps c 5#32) (Scalar.ofBits .f32 0x00000000#32) (Named.named κ "mask" 0xCE6E6B28#32) (rdL m c 5 0) (rdL m c 5 1)
def denL5 : FVec F S8x256x1 .f32 := k0_pay55 (qv m c) (denR5 m c) (wraps c 5#32) (Scalar.ofBits .f32 0x00000000#32) (Named.named κ "mask" 0xCE6E6B28#32) (rdL m c 5 0)
def numR6 : FVec F S8x256x64 .f32 := k0_pay57 (me c) (qv m c) (numL5 m c) (rdR m c 6 0) (rdR m c 6 1)
def denR6 : FVec F S8x256x1 .f32 := k0_pay58 (me c) (qv m c) (denL5 m c) (rdR m c 6 0)
def numL6 : FVec F S8x256x64 .f32 := k0_pay60 (qv m c) (numR6 m c) (wraps c 6#32) (rdL m c 6 0) (rdL m c 6 1)
def denL6 : FVec F S8x256x1 .f32 := k0_pay61 (qv m c) (denR6 m c) (wraps c 6#32) (rdL m c 6 0)
def num7 : FVec F S8x256x64 .f32 := k0_pay67 (me c) (qv m c) (numL6 m c) (k0_pay62 (rdR m c 7 1)) (k0_pay63 (qv m c) (rdR m c 7 0)) (k0_pay64 (me c)) (rdL m c 7 0) (rdL m c 7 1)
def den7 : FVec F S8x256x1 .f32 := k0_pay68 (me c) (qv m c) (denL6 m c) (k0_pay63 (qv m c) (rdR m c 7 0)) (k0_pay64 (me c)) (rdL m c 7 0)
def num8 : FVec F S8x256x64 .f32 := k0_pay70 (me c) (qv m c) (num7 m c) (rdR m c 8 0) (rdR m c 8 1)
def den8 : FVec F S8x256x1 .f32 := k0_pay71 (me c) (qv m c) (den7 m c) (rdR m c 8 0)

/-- The two batch entries of the result. -/
def out0 : FVec F S1x256x512 .f32 := k0_pay1 (k0_pay73 (ostg m c)) (k0_pay74 (num8 m c) (den8 m c))
def out1 : FVec F S1x256x512 .f32 := k0_pay2 (k0_pay72 (num8 m c) (den8 m c)) (k0_pay73 (ostg m c))

/-- An index of a batch entry. -/
def ixO (i : Fin 256) (j : Fin 512) : S1x256x512.Idx
  | ⟨0, _⟩ => (⟨0, by decide⟩ : Fin 1)
  | ⟨1, _⟩ => i
  | ⟨2, _⟩ => j

/-- Two batch entries stacked. -/
def outOf (w0 w1 : S1x256x512.Idx → Elt F .f32) : (cc0_stg5_0 : Ref sig .tc).ty.Contents (Elt F) :=
  fun i => if (i (0 : Fin 3)).val = 0 then w0 (ixO (i (1 : Fin 3)) (i (2 : Fin 3))) else w1 (ixO (i (1 : Fin 3)) (i (2 : Fin 3)))

/-- The result of device `c`. -/
def outAt : (cc0_stg5_0 : Ref sig .tc).ty.Contents (Elt F) := outOf (out0 m c) (out1 m c)

omit [FloatOps F] [Named F] in
/-- Both batch entries stored, whatever was there before. -/
theorem stored_out (f : (cc0_stg5_0 : Ref sig .tc).ty.Contents (Elt F)) (w0 w1 : S1x256x512.Idx → Elt F .f32) :
    (oM.access row1 : View sig .tc _ _ _).write (Elt F) ((oM.access row0 : View sig .tc _ _ _).write (Elt F) f w0 Finset.univ) w1 Finset.univ = outOf w0 w1 := by
  funext i
  have hi0 := (i (0 : Fin 3)).isLt
  have hi0' : (i (0 : Fin 3)).val < 2 := hi0
  unfold outOf
  by_cases h : (i (0 : Fin 3)).val = 0
  · rw [if_pos h]
    have hj : (oM.access row0 : View sig .tc _ _ _).emb (ixO (i (1 : Fin 3)) (i (2 : Fin 3))) = i := by
      funext a; apply Fin.ext
      fin_cases a
      · show 0 + 1 * 0 = (i (0 : Fin 3)).val; omega
      · show 0 + 1 * (i (1 : Fin 3)).val = (i (1 : Fin 3)).val; omega
      · show 0 + 1 * (i (2 : Fin 3)).val = (i (2 : Fin 3)).val; omega
    rw [View.write_of_not_mem]
    · have hw := View.write_emb_of_mem (Val := Elt F) (v := (oM.access row0 : View sig .tc _ _ _)) f w0 (Finset.mem_univ (ixO (i (1 : Fin 3)) (i (2 : Fin 3))))
      rw [hj] at hw
      exact hw
    · intro hm
      obtain ⟨j, -, e⟩ := Finset.mem_map.mp hm
      have := congrArg (fun i : S2x256x512.Idx => (i (0 : Fin 3)).val) e
      have : 1 + 1 * (j (0 : Fin 3)).val = (i (0 : Fin 3)).val := this
      omega
  · rw [if_neg h]
    have hj : (oM.access row1 : View sig .tc _ _ _).emb (ixO (i (1 : Fin 3)) (i (2 : Fin 3))) = i := by
      funext a; apply Fin.ext
      fin_cases a
      · show 1 + 1 * 0 = (i (0 : Fin 3)).val; omega
      · show 0 + 1 * (i (1 : Fin 3)).val = (i (1 : Fin 3)).val; omega
      · show 0 + 1 * (i (2 : Fin 3)).val = (i (2 : Fin 3)).val; omega
    have hw := View.write_emb_of_mem (Val := Elt F) (v := (oM.access row1 : View sig .tc _ _ _)) ((oM.access row0 : View sig .tc _ _ _).write (Elt F) f w0 Finset.univ) w1
      (Finset.mem_univ (ixO (i (1 : Fin 3)) (i (2 : Fin 3))))
    rw [hj] at hw
    exact hw

end Values

end Cert.RingAttn

end
-- ==== Proof.Body.lean ====
/-
# The kernel's body on one device

From the ring's start to its end: the two signals and the barrier, the own slots filled, the exchange step by step, the
result stored.
-/
module

public import proofs.«01_k».proof.Proof.Outcome

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What a device starts from -/

/-- What is owed at the start: the exchange's copies, then a signal to each neighbour. -/
def O₀ (c : Dev nD) : CellTallies nD τ sig Unit := owed c prog + tallyAt (barCell (nxt c)) () 1 + tallyAt (barCell (prv c)) () 1

/-- A transfer's tokens, on the sender. -/
def sndTok (c : Dev nD) (x : Xf) : sProp 𝕄 :=
  iprop(dutyTok ER (sndCell c x) 0 false ∗ dutyTok ER (rcvCell (tgt c x) x) 0 false ∗ atPos ER (sndCell c x) 0 ∅ 0)
/-- The barrier's tokens. -/
def barTok (c : Dev nD) : sProp 𝕄 :=
  iprop(dutyTok ER (barCell (prv c)) 0 true ∗ dutyTok ER (barCell (nxt c)) 0 false ∗ atPos ER (barCell c) 0 ∅ 0)
/-- What the launch's ghost step leaves with a device. -/
def linear (c : Dev nD) : sProp 𝕄 :=
  iprop(barTok c ∗ (bigSep Finset.univ (sndTok c)) ∗ bigSep Finset.univ fun x => atPos ER (rcvCell c x) 0 ∅ 0)
/-- The credits a device starts with. -/
def credits (c : Dev nD) : sProp 𝕄 :=
  iprop(cred (tallyAt (barCell c) () 2) ∗ bigSep Finset.univ fun x : Xf => cred (tallyAt (rcvCell c x) () N))

def start (c : Dev nD) : sProp 𝕄 := iprop((∃ K, records m K ∗ linear c) ∗ credits c)

def Φ₀ (c : Dev nD) : sProp 𝕄 := iprop(start m c ∗ (∃ f, locR c ↦{fullShare} f) ∗ (∃ f, locL c ↦{fullShare} f))
/-- At the end: the two buffers filled, and every semaphore at zero. -/
def Φ₁ (c : Dev nD) : sProp 𝕄 :=
  iprop((locR c ↦{fullShare} contR m c) ∗ (locL c ↦{fullShare} contL m c) ∗ semVal (barCell c) 0
    ∗ (bigSep Finset.univ fun x : Xf => semVal (sndCell c x) 0) ∗ bigSep Finset.univ fun x : Xf => semVal (rcvCell c x) 0)

theorem gather_send (c : Dev nD) : iprop(barPay c false ∗ barPay c true ∗ bigSep Finset.univ (sndTok (F := F) c)) ⊢ bigSep Finset.univ (sendSt c prog) := by
  have e : bigSep Finset.univ (sendSt (F := F) c prog) = iprop((bigSep Finset.univ fun x => room (tgt c x) (dstP x)) ∗ bigSep Finset.univ (sndTok c)) :=
    (bigSep_congr fun x _ => start_send c x).trans (bigSep_sep' _ _ _)
  have e' : (bigSep Finset.univ fun x : Xf => room (F := F) (tgt c x) (dstP x)) = iprop(barPay c true ∗ barPay c false) :=
    BI.bigSep_univ_sum _
  rw [e, e']
  iintro ⟨H1, H2, H3⟩
  isplitl [H1 H2]
  · isplitl [H2]; · iexact H2
    iexact H1
  iexact H3
theorem gather_recv (c : Dev nD) : iprop((bigSep Finset.univ fun x : Xf => cred (tallyAt (rcvCell c x) () N)) ∗ bigSep Finset.univ fun x => atPos ER (rcvCell c x) 0 ∅ 0)
    ⊢ bigSep Finset.univ (recvSt (F := F) c prog) :=
  Entails.of_eq ((bigSep_sep' _ _ _).symm.trans (bigSep_congr fun x _ => (start_recv c x).symm))

/-- The first slots filled: the pieces a device holds before the exchange. -/
theorem gather_pieces (c : Dev nD) : (iprop((full m c fullShare (.inl (0, 0)) ∗ full m c fullShare (.inl (0, 1))) ∗ (full m c fullShare (.inl (0, 2)) ∗ full m c fullShare (.inl (0, 3)))
      ∗ (full m c fullShare (.inr (0, 0)) ∗ full m c fullShare (.inr (0, 1))) ∗ (full m c fullShare (.inr (0, 2)) ∗ full m c fullShare (.inr (0, 3)))) : sProp 𝕄)
    ⊢ iprop((bigSep Finset.univ (keepSt m c prog)) ∗ bigSep Finset.univ (lendSt m c prog)) := by
  refine BI.Entails.trans ?_ ((halves_list m c).trans (BI.sep_mono (start_keep m c) (start_lend m c)))
  show _ ⊢ (bigSepL firsts fun y => full m c fullShare y : sProp 𝕄)
  iintro ⟨⟨H1, H2⟩, ⟨H3, H4⟩, ⟨H5, H6⟩, H7, H8⟩
  iapply (show (iprop(full m c fullShare (.inl (0, 0)) ∗ full m c fullShare (.inl (0, 1)) ∗ full m c fullShare (.inl (0, 2)) ∗ full m c fullShare (.inl (0, 3)) ∗ full m c fullShare (.inr (0, 0)) ∗ full m c fullShare (.inr (0, 1)) ∗ full m c fullShare (.inr (0, 2)) ∗ full m c fullShare (.inr (0, 3))) : sProp 𝕄) ⊢ (bigSepL firsts fun y => full m c fullShare y) from Entails.of_eq (by
    unfold firsts; simp only [bigSepL_cons_cons, bigSepL_singleton]; rfl))
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The pipeline's data -/

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => qstg m c
    | ⟨2, _⟩ => kstg m c
    | ⟨3, _⟩ => vstg m c
    | ⟨4, _⟩ => ostg m c
    | ⟨5, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetched (w : Fin 6) (hw : w.val < 5) (t : Fin cfg0.N) : (cfg0.win w).fetch t = true := by
  rw [fin_N t]; revert w; decide

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body

variable (K : Dev nD × CK → ℕ)

def bodyPre (c : Dev nD) : sProp 𝕄 :=
  iprop((records m K ∗ linear c ∗ credits c ∗ (∃ f, locR c ↦{fullShare} f) ∗ (∃ f, locL c ↦{fullShare} f))
    ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ m c ∗ (dats m ρ 0 c).owesAt () t₀.succ ∗ stg c cc0_stg0_0 (xstg m c) ∗ stg c cc0_stg1_0 (qstg m c) ∗ stg c cc0_stg2_0 (kstg m c)
    ∗ stg c cc0_stg3_0 (vstg m c) ∗ stg c cc0_stg4_0 (ostg m c) ∗ stg c cc0_stg5_0 (outAt m c))

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The exchange's first state. -/
theorem begin_St (c : Dev nD) (W : Waits sig Unit) : iprop(records m K ∗ owes (c : Thread nD τ) (owed c prog) W ∗ (bigSep Finset.univ (sendSt c prog)) ∗ (bigSep Finset.univ (recvSt c prog))
      ∗ (bigSep Finset.univ (keepSt m c prog)) ∗ bigSep Finset.univ (lendSt m c prog)) ⊢ St m K c prog := by
  unfold St
  iintro ⟨Hrec, HO, Hs, Hr, Hkeep, Hlend⟩
  isplitr; · ipureintro; exact ok_prog
  isplitl [Hrec]; · iexact Hrec
  isplitl [HO]; · iexists _; iexact HO
  isplitl [Hs]; · iexact Hs
  isplitl [Hr]; · iexact Hr
  isplitl [Hkeep]; · iexact Hkeep
  iexact Hlend

/-- The exchange's last state. -/
theorem end_St (c : Dev nD) : St m K c [] ⊢ iprop((∃ W, owes (c : Thread nD τ) 0 W) ∗ (locR c ↦{fullShare} contR m c) ∗ (locL c ↦{fullShare} contL m c)
      ∗ (bigSep Finset.univ fun x : Xf => semVal (sndCell c x) 0) ∗ bigSep Finset.univ fun x : Xf => semVal (rcvCell c x) 0) := by
  unfold St
  iintro ⟨-, -, HO, Hs, Hr, Hk, Hl⟩
  ihave Hf := (end_full m c) $$ [Hk Hl]
  · isplitl [Hk]; · iexact Hk
    iexact Hl
  icases Hf with ⟨HR, HL⟩
  isplitl [HO]; · iexact HO
  isplitl [HR]; · iexact HR
  isplitl [HL]; · iexact HL
  isplitl [Hs]
  · iapply (show (bigSep Finset.univ (sendSt c []) : sProp 𝕄) ⊢ _ from Entails.of_eq (bigSep_congr fun x _ => end_send c x)); iexact Hs
  iapply (show (bigSep Finset.univ (recvSt c []) : sProp 𝕄) ⊢ _ from Entails.of_eq (bigSep_congr fun x _ => end_recv c x)); iexact Hr

attribute [local irreducible] St

theorem enter_bind {c : Dev nD} {H : sProp 𝕄} {α β : Type} (p : Prog (TpuEff nD τ sig (Elt F) Λ₀ .tc) α) (k : α → Prog (TpuEff nD τ sig (Elt F) Λ₀ .tc) β) {Q : β → sProp 𝕄}
    (h : H ⊢ wp frame (wpE (defs₀ (F := F)) 𝒱₀ (c : Thread nD τ) none) Set.univ p
      (fun a => wp frame (wpE (defs₀ (F := F)) 𝒱₀ (c : Thread nD τ) none) Set.univ (k a) Q)) :
    H ⊢ wp frame (wpE (defs₀ (F := F)) 𝒱₀ (c : Thread nD τ) none) Set.univ (p >>= k) Q := by
  rw [wp_bind]; exact h
theorem enter_ret {c : Dev nD} {H : sProp 𝕄} {α : Type} (a : α) {Q : α → sProp 𝕄} (h : H ⊢ Q a) :
    H ⊢ wp frame (wpE (defs₀ (F := F)) 𝒱₀ (c : Thread nD τ) none) Set.univ (.ret a) Q :=
  h.trans (le_wp_ret _ _ _ a Q)

theorem enter_op {c : Dev nD} {H : sProp 𝕄} {α β : Type} (e : TpuEff nD τ sig (Elt F) Λ₀ .tc β) (k : β → Prog (TpuEff nD τ sig (Elt F) Λ₀ .tc) α) {Q : α → sProp 𝕄}
    (h : H ⊢ wp frame (wpE (defs₀ (F := F)) 𝒱₀ (c : Thread nD τ) none) Set.univ (.op e k) Q) :
    H ⊢ wp frame (wpE (defs₀ (F := F)) 𝒱₀ (c : Thread nD τ) none) Set.univ (.op e k) Q := h

/-- What the exchange leaves alone: the barrier's semaphore, the staged blocks, and what follows the body. -/
def rest (c : Dev nD) (g5 : Buf (Elt F) ((c : Thread nD τ).loc cc0_stg5_0)) (Kt : PUnit → sProp 𝕄) : sProp 𝕄 :=
  iprop(semVal (barCell c) 0 ∗ (((c : Thread nD τ).loc cc0_stg0_0) ↦{fullShare} xstg m c) ∗ (((c : Thread nD τ).loc cc0_stg1_0) ↦{fullShare} qstg m c)
    ∗ (((c : Thread nD τ).loc cc0_stg2_0) ↦{fullShare} kstg m c) ∗ (((c : Thread nD τ).loc cc0_stg3_0) ↦{fullShare} vstg m c)
    ∗ (((c : Thread nD τ).loc cc0_stg4_0) ↦{fullShare} ostg m c) ∗ (((c : Thread nD τ).loc cc0_stg5_0) ↦{fullShare} g5)
    ∗ (bodyPost m ρ c -∗ Kt ⟨⟩))

/-- The output weights loaded. -/
theorem step_ldW {c : Dev nD} {P : sProp 𝕄} {g5 Kt} {hl : wM.view.LoadsAt (Rect.unit (s := S256x512) ![0, 0] S256x512.size inb_S256x512_S256x512_0_0).toLoadRect}
    {α : Type} {Q : α → sProp 𝕄} {k : (S256x512.Idx → Elt F .bf16) → Prog (TpuEff nD τ sig (Elt F) Λ₀ .tc) α}
    (h : iprop(P ∗ rest m ρ c g5 Kt) ⊢ wp frame (wpE (defs₀ (F := F)) 𝒱₀ (c : Thread nD τ) none) Set.univ (k (ostg m c)) Q) :
    iprop(P ∗ rest m ρ c g5 Kt) ⊢ wp frame (wpE (defs₀ (F := F)) 𝒱₀ (c : Thread nD τ) none) Set.univ
      (.op (.load wM (Rect.unit (s := S256x512) ![0, 0] S256x512.size inb_S256x512_S256x512_0_0).toLoadRect hl) k) Q := by
  iintro ⟨HP, Hr⟩
  unfold rest
  icases Hr with ⟨HzB, Hx, Hq, Hkk, Hv, Hw, Hout, Hk⟩
  iapply (wp_load 𝒱₀ (c : Thread nD τ) none Set.univ (m := wM) (Finset.subset_univ _)) $$ Hw; iintro Hw
  rw [show (wM.view.readAt (Elt F) (Rect.unit (s := S256x512) ![0, 0] S256x512.size inb_S256x512_S256x512_0_0).toLoadRect (ostg m c)) = ostg m c
    from Memref.readAt_unit_zero (Elt F) cc0_stg4_0 hz2 _ _]
  iapply h
  isplitl [HP]; · iexact HP
  unfold rest
  isplitl [HzB]; · iexact HzB
  isplitl [Hx]; · iexact Hx
  isplitl [Hq]; · iexact Hq
  isplitl [Hkk]; · iexact Hkk
  isplitl [Hv]; · iexact Hv
  isplitl [Hw]; · iexact Hw
  isplitl [Hout]; · iexact Hout
  iexact Hk
/-- A row of the result stored, what was there read first. -/
theorem step_stO {c : Dev nD} {P : sProp 𝕄} {g5 : Buf (Elt F) ((c : Thread nD τ).loc cc0_stg5_0)} {Kt} {r : Rect S2x256x512} {hl : oM.view.LoadsAt r.toLoadRect} {w : r.shape.Idx → Elt F .f32}
    {hx : (oM.access r).Stores Finset.univ} {hm}
    {α : Type} {Q : α → sProp 𝕄} {k : PUnit → Prog (TpuEff nD τ sig (Elt F) Λ₀ .tc) α}
    (h : iprop(P ∗ rest m ρ c ((oM.access r : View sig .tc _ _ _).write (Elt F) g5 w Finset.univ) Kt) ⊢ wp frame (wpE (defs₀ (F := F)) 𝒱₀ (c : Thread nD τ) none) Set.univ (k ⟨⟩) Q) :
    iprop(P ∗ rest m ρ c g5 Kt) ⊢ wp frame (wpE (defs₀ (F := F)) 𝒱₀ (c : Thread nD τ) none) Set.univ
      (.op (.load oM r.toLoadRect hl) fun _ => .op (.store oM r w Finset.univ hx hm) k) Q := by
  iintro ⟨HP, Hr⟩
  unfold rest
  icases Hr with ⟨HzB, Hx, Hq, Hkk, Hv, Hw, Hout, Hk⟩
  iapply (wp_load 𝒱₀ (c : Thread nD τ) none Set.univ (m := oM) (Finset.subset_univ _)) $$ Hout; iintro Hout
  iapply (wp_store 𝒱₀ (c : Thread nD τ) none Set.univ (m := oM) (r := r) (Mk := Finset.univ) (Finset.subset_univ _)) $$ Hout; iintro Hout
  iapply h
  isplitl [HP]; · iexact HP
  unfold rest
  isplitl [HzB]; · iexact HzB
  isplitl [Hx]; · iexact Hx
  isplitl [Hq]; · iexact Hq
  isplitl [Hkk]; · iexact Hkk
  isplitl [Hv]; · iexact Hv
  isplitl [Hw]; · iexact Hw
  isplitl [Hout]; · iexact Hout
  iexact Hk
/-- The body's end. -/
theorem finish (c : Dev nD) (g5 : Buf (Elt F) ((c : Thread nD τ).loc cc0_stg5_0)) (Kt : PUnit → sProp 𝕄) (hg : g5 = outAt m c) :
    iprop(St m K c [] ∗ rest m ρ c g5 Kt) ⊢ Kt ⟨⟩ := by
  subst hg
  iintro ⟨HS, Hr⟩
  unfold rest
  icases Hr with ⟨HzB, Hx, Hq, Hkk, Hv, Hw, Hout, Hk⟩
  ihave HE := (end_St m K c) $$ HS
  icases HE with ⟨⟨%W, HO⟩, HR, HL, Hs, Hv'⟩
  iapply Hk
  unfold bodyPost Φ₁
  isplitl [HzB HR HL Hs Hv']
  · isplitl [HR]; · iexact HR
    isplitl [HL]; · iexact HL
    isplitl [HzB]; · iexact HzB
    isplitl [Hs]; · iexact Hs
    iexact Hv'
  isplitl [HO]
  · unfold Dat.owesAt Pipeline.owesWithin
    rw [show (dats m ρ 0 c).owed t₀.succ = 0 from rfl]
    iexists W; isplitr; · ipureintro; exact fun _ _ => Or.inl trivial
    iexact HO
  isplitl [Hx]; · iexists _; isplitr; (· ipureintro; rfl); iexact Hx
  isplitl [Hq]; · iexists _; isplitr; (· ipureintro; rfl); iexact Hq
  isplitl [Hkk]; · iexists _; isplitr; (· ipureintro; rfl); iexact Hkk
  isplitl [Hv]; · iexists _; isplitr; (· ipureintro; rfl); iexact Hv
  isplitl [Hw]; · iexists _; isplitr; (· ipureintro; rfl); iexact Hw
  iexists _; isplitr; · ipureintro; rfl
  iexact Hout

set_option maxRecDepth 100000 in
set_option maxHeartbeats 4000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body xM (Memref.isWhole_whole _) qM (Memref.isWhole_whole _) kM (Memref.isWhole_whole _) vM (Memref.isWhole_whole _)
            wM (Memref.isWhole_whole _) oM (Memref.isWhole_whole _) rM (Memref.isWhole_whole _) lM (Memref.isWhole_whole _)
            cc0_scratch2 cc0_scratch3 cc0_scratch4 cc0_scratch5) Kt := by
  rw [cc0_body_eq_skeleton]; unfold cc0_body_skel
  rw [k0_part87_eq_skeleton]; unfold k0_part87_skel
  rw [k0_part1_eq_skeleton, k0_part2_eq_skeleton]; unfold k0_part1_skel k0_part2_skel
  simp only [semSignalWord, semWaitWord, Prog.lift, Prog.bind_op, Prog.bind_ret, Prog.pure_eq_ret, wp_deviceId]
  unfold bodyPre linear barTok credits
  iintro ⟨⟨⟨#Hrec, ⟨⟨HtP, HtN, HatB⟩, Hsnd, HatV⟩, ⟨HcB, HcV⟩, ⟨%fR, HR⟩, ⟨%fL, HL⟩⟩,
    Ho, ⟨%d0, %g0, %hg0, Hx⟩, ⟨%d1, %g1, %hg1, Hq⟩, ⟨%d2, %g2, %hg2, Hkk⟩, ⟨%d3, %g3, %hg3, Hv⟩, ⟨%d4, %g4, %hg4, Hw⟩, ⟨%d5, %g5, %hg5, Hout⟩⟩, Hk⟩
  have hx0 : g0 = xstg m c := by rw [hg0]; unfold Dat.before; rw [if_pos (fetched 0 (by decide) t₀)]; rfl
  have hx1 : g1 = qstg m c := by rw [hg1]; unfold Dat.before; rw [if_pos (fetched 1 (by decide) t₀)]; rfl
  have hx2 : g2 = kstg m c := by rw [hg2]; unfold Dat.before; rw [if_pos (fetched 2 (by decide) t₀)]; rfl
  have hx3 : g3 = vstg m c := by rw [hg3]; unfold Dat.before; rw [if_pos (fetched 3 (by decide) t₀)]; rfl
  have hx4 : g4 = ostg m c := by rw [hg4]; unfold Dat.before; rw [if_pos (fetched 4 (by decide) t₀)]; rfl
  subst hx0; subst hx1; subst hx2; subst hx3; subst hx4
  clear hg0 hg1 hg2 hg3 hg4 hg5
  unfold Dat.owesAt Pipeline.owesWithin
  icases Ho with ⟨%W, %hW, HO⟩
  rw [show (dats m ρ 0 c).owed t₀.castSucc = O₀ c from rfl]
  simp only [dev1_eq c, dev2_eq c]
  ihave HR := (cutR c fR) $$ HR
  icases HR with ⟨HR0, HR1, HRr⟩
  ihave HL := (cutL c fL) $$ HL
  icases HL with ⟨HL0, HL1, HLr⟩
  -- the signal to the left neighbour, with the slots its copies are going to fill
  unfold O₀
  iapply (Rounds.wp_signal 𝒱₀ ER (ringRd m) (c : Thread nD τ) none (dst := (prv c : Thread nD τ)) (κ := K (prv c, none))
      (d := true) (by rw [duties_bar]; exact Finset.mem_univ _) (by rfl) () (owed c prog + tallyAt (barCell (nxt c)) () 1) rfl)
    $$ [HO HtP HRr]
  · isplitr; · iapply (rec_inv m K (prv c) none); iexact Hrec
    isplitl [HO]; · iexact HO
    isplitl [HtP]; · iexact HtP
    isplitl [HRr]
    · rw [show (ringRd (F := F) m).payload (barCell (prv c)) 0 true = barPay (prv c) true from rfl]; unfold barPay; rw [nxt_prv]; iexact HRr
    iapply (rec_reached m K (prv c) none); iexact Hrec
  iintro HO
  -- the signal to the right neighbour
  iapply (Rounds.wp_signal 𝒱₀ ER (ringRd m) (c : Thread nD τ) none (dst := (nxt c : Thread nD τ)) (κ := K (nxt c, none))
      (d := false) (by rw [duties_bar]; exact Finset.mem_univ _) (by rfl) () (owed c prog) rfl)
    $$ [HO HtN HLr]
  · isplitr; · iapply (rec_inv m K (nxt c) none); iexact Hrec
    isplitl [HO]; · iexact HO
    isplitl [HtN]; · iexact HtN
    isplitl [HLr]
    · rw [show (ringRd (F := F) m).payload (barCell (nxt c)) 0 false = barPay (nxt c) false from rfl]; unfold barPay; rw [prv_nxt]; iexact HLr
    iapply (rec_reached m K (nxt c) none); iexact Hrec
  iintro HO
  -- the barrier
  iapply (Rounds.wp_wait_rest_token 𝒱₀ ER (ringRd m) (c : Thread nD τ) none (κ := K (c, none))
      (wpE_semWait_eq 𝒱₀ (c : Thread nD τ) none Set.univ) (Set.mem_univ _) () (O := owed c prog) (W := W) (R := 0) (m := 0) (T := ∅)
      (by rw [expect_bar]; decide)) $$ [HcB HO HatB]
  · isplitr; · iapply (rec_inv m K c none); iexact Hrec
    isplitl [HcB]; · iexact HcB
    isplitl [HO]; · iexact HO
    isplitr; · iapply (mayWait_bar m K c prog); iexact Hrec
    iexact HatB
  iintro ⟨HO, HatB, -, Hpay⟩
  ihave Hp := (Entails.of_eq (rest_bar m c)) $$ Hpay
  imod (Rounds.cell_close ER (ringRd m) (Set.mem_univ (K (c, none))) (fun h => h) (R := 0 + 1) (duties_later m (barCell c))) $$ [HatB] with HzB
  · isplitr; · iapply (rec_inv m K c none); iexact Hrec
    iexact HatB
  icases Hp with ⟨Hp0, Hp1⟩
  ihave Hs := (gather_send c) $$ [Hp0 Hp1 Hsnd]
  · isplitl [Hp0]; · iexact Hp0
    isplitl [Hp1]; · iexact Hp1
    iexact Hsnd
  ihave Hr := (gather_recv c) $$ [HcV HatV]
  · isplitl [HcV]; · iexact HcV
    iexact HatV
  -- the own keys and values into the first slots
  iapply (wp_load 𝒱₀ (c : Thread nD τ) none Set.univ (m := kM) (Finset.subset_univ _)) $$ Hkk; iintro Hkk
  rw [show (kM.view.readAt (Elt F) (Rect.unit (s := S2x256x4x64) ![0, 0, 0, 0] S2x256x4x64.size inb_S2x256x4x64_S2x256x4x64_0_0_0_0).toLoadRect (kstg m c)) = kstg m c
    from Memref.readAt_unit_zero (Elt F) cc0_stg2_0 hz4 _ _]
  iapply (wp_load 𝒱₀ (c : Thread nD τ) none Set.univ (m := vM) (Finset.subset_univ _)) $$ Hv; iintro Hv
  rw [show (vM.view.readAt (Elt F) (Rect.unit (s := S2x256x4x64) ![0, 0, 0, 0] S2x256x4x64.size inb_S2x256x4x64_S2x256x4x64_0_0_0_0).toLoadRect (vstg m c)) = vstg m c
    from Memref.readAt_unit_zero (Elt F) cc0_stg3_0 hz4 _ _]
  iapply (wp_load 𝒱₀ (c : Thread nD τ) none Set.univ (m := rM) (S := firstR 0) (f := fR) (half_subR 0 0)) $$ HR0; iintro HR0
  iapply (wp_store 𝒱₀ (c : Thread nD τ) none Set.univ (m := rM) (r := halfR 0 0) (S := firstR 0) (f := fR) (Mk := Finset.univ) (access_subR 0)) $$ HR0; iintro HR0
  ihave HR0 := (show (locR c ↦[firstR 0]{fullShare} (rM.access (halfR 0 0) : View sig .tc _ _ _).write (Elt F) fR (k0_pay5 (kstg m c)) Finset.univ) ⊢ _
    from filledR m c 0 _ (storedR m c 0 fR)) $$ HR0
  iapply (wp_load 𝒱₀ (c : Thread nD τ) none Set.univ (m := rM) (S := firstR 1) (f := fR) (half_subR 0 1)) $$ HR1; iintro HR1
  iapply (wp_store 𝒱₀ (c : Thread nD τ) none Set.univ (m := rM) (r := halfR 0 1) (S := firstR 1) (f := fR) (Mk := Finset.univ) (access_subR 1)) $$ HR1; iintro HR1
  ihave HR1 := (show (locR c ↦[firstR 1]{fullShare} (rM.access (halfR 0 1) : View sig .tc _ _ _).write (Elt F) fR (k0_pay6 (k0_pay4 (vstg m c))) Finset.univ) ⊢ _
    from filledR m c 1 _ (storedR m c 1 fR)) $$ HR1
  iapply (wp_load 𝒱₀ (c : Thread nD τ) none Set.univ (m := lM) (S := firstL 0) (f := fL) (half_subL 0 0)) $$ HL0; iintro HL0
  iapply (wp_store 𝒱₀ (c : Thread nD τ) none Set.univ (m := lM) (r := halfL 0 0) (S := firstL 0) (f := fL) (Mk := Finset.univ) (access_subL 0)) $$ HL0; iintro HL0
  ihave HL0 := (show (locL c ↦[firstL 0]{fullShare} (lM.access (halfL 0 0) : View sig .tc _ _ _).write (Elt F) fL (k0_pay7 (k0_pay3 (kstg m c))) Finset.univ) ⊢ _
    from filledL m c 0 _ (storedL m c 0 fL)) $$ HL0
  iapply (wp_load 𝒱₀ (c : Thread nD τ) none Set.univ (m := lM) (S := firstL 1) (f := fL) (half_subL 0 1)) $$ HL1; iintro HL1
  iapply (wp_store 𝒱₀ (c : Thread nD τ) none Set.univ (m := lM) (r := halfL 0 1) (S := firstL 1) (f := fL) (Mk := Finset.univ) (access_subL 1)) $$ HL1; iintro HL1
  ihave HL1 := (show (locL c ↦[firstL 1]{fullShare} (lM.access (halfL 0 1) : View sig .tc _ _ _).write (Elt F) fL (k0_pay8 (k0_pay4 (vstg m c))) Finset.univ) ⊢ _
    from filledL m c 1 _ (storedL m c 1 fL)) $$ HL1
  ihave Hpc := (gather_pieces m c) $$ [HR0 HR1 HL0 HL1]
  · isplitl [HR0]; · iexact HR0
    isplitl [HR1]; · iexact HR1
    isplitl [HL0]; · iexact HL0
    iexact HL1
  icases Hpc with ⟨Hkeep, Hlend⟩
  iapply (wp_load 𝒱₀ (c : Thread nD τ) none Set.univ (m := qM) (Finset.subset_univ _)) $$ Hq; iintro Hq
  rw [show (qM.view.readAt (Elt F) (Rect.unit (s := S512x256) ![0, 0] S512x256.size inb_S512x256_S512x256_0_0).toLoadRect (qstg m c)) = qstg m c
    from Memref.readAt_unit_zero (Elt F) cc0_stg1_0 hz2 _ _]
  iapply (wp_load 𝒱₀ (c : Thread nD τ) none Set.univ (m := xM) (Finset.subset_univ _)) $$ Hx; iintro Hx
  iapply (wp_load 𝒱₀ (c : Thread nD τ) none Set.univ (m := xM) (Finset.subset_univ _)) $$ Hx; iintro Hx
  ihave HSt := (begin_St m K c _) $$ [HO Hs Hr Hkeep Hlend]
  · isplitr; · iexact Hrec
    isplitl [HO]; · iexact HO
    isplitl [Hs]; · iexact Hs
    isplitl [Hr]; · iexact Hr
    isplitl [Hkeep]; · iexact Hkeep
    iexact Hlend
  iapply (show (iprop(St m K c prog ∗ rest m ρ c g5 Kt) : sProp 𝕄) ⊢ _ from ?hB) $$ [HSt HzB Hx Hq Hkk Hv Hw Hout Hk]
  rotate_left
  · isplitl [HSt]; · iexact HSt
    unfold rest
    isplitl [HzB]; · iexact HzB
    isplitl [Hx]; · iexact Hx
    isplitl [Hq]; · iexact Hq
    isplitl [Hkk]; · iexact Hkk
    isplitl [Hv]; · iexact Hv
    isplitl [Hw]; · iexact Hw
    isplitl [Hout]; · iexact Hout
    iexact Hk
  unfold prog ringStep
  repeat (first
    | with_reducible refine enter_bind _ _ ?_
    | with_reducible refine enter_ret _ ?_
    | (with_reducible refine enter_op _ _ ?_
       first
        | refine step_recv m K c _ _ _ ?_
        | refine step_swait m K c _ _ _ ?_
        | refine step_ldR m K c _ _ _ _ ?_
        | refine step_ldL m K c _ _ _ _ ?_
        | (refine step_send m K c _ _ _ ?hn ?_
           case hn => clear * -; revert c; decide +kernel)
        | refine step_ldW m ρ ?_
        | refine step_stO m ρ ?_)
    | (fail_if_success with_reducible refine enter_op _ _ ?_
       conv => rhs; arg 1; arg 4; simp only [k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part88_eq_skeleton, k0_part88_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel, k0_part85_eq_skeleton, k0_part85_skel, k0_part86_eq_skeleton, k0_part86_skel, Prog.lift, Prog.bind_op, Prog.bind_ret, Prog.pure_eq_ret]))
  exact finish m ρ K c _ Kt (by rw [stored_out]; rfl)

end Body

end Cert.RingAttn

end
-- ==== Proof.Launch.lean ====
/-
# The launch

The kernel's cells and tokens, funded once and dealt around the ring; the credits; and the run of the whole program.
-/
module

public import proofs.«01_k».proof.Proof.Body
public import Idealize.ShloMosaic.Lib.Pipeline.CollectiveSegs

@[expose] public section

noncomputable section

namespace Cert.RingAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The body's obligation -/

/-- The bundle the pipeline hands the body, unfolded. -/
def bodyPre' (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

set_option maxRecDepth 100000 in
theorem body_obligation (c : Dev nD) : BodyObligation (dats (F := F) m ρ 0 c) (defs₀ (F := F)) 𝒱₀ () Set.univ := fun t => by
  rw [fin_N t, bigSep_W0, bigSep_W0]
  simp only [owns_whole_eq]
  show bodyPre' m ρ c ⊢ wp frame (wpE (defs₀ (F := F)) 𝒱₀ c none) Set.univ
    (cc0_body xM (Memref.isWhole_whole _) qM (Memref.isWhole_whole _) kM (Memref.isWhole_whole _) vM (Memref.isWhole_whole _)
            wM (Memref.isWhole_whole _) oM (Memref.isWhole_whole _) rM (Memref.isWhole_whole _) lM (Memref.isWhole_whole _)
            cc0_scratch2 cc0_scratch3 cc0_scratch4 cc0_scratch5) (fun _ => bodyPost m ρ c)
  unfold bodyPre' Φ₀ start
  iintro ⟨⟨⟨⟨%K, Hrec, Hlin⟩, Hcr⟩, HR, HL⟩, Hrest⟩
  iapply (sound_body m ρ K c fun _ => bodyPost m ρ c)
  isplitl [Hrec Hlin Hcr HR HL Hrest]
  · unfold bodyPre
    isplitl [Hrec Hlin Hcr HR HL]
    · isplitl [Hrec]; · iexact Hrec
      isplitl [Hlin]; · iexact Hlin
      isplitl [Hcr]; · iexact Hcr
      isplitl [HR]; · iexact HR
      iexact HL
    iexact Hrest
  · iintro H; iexact H

/-! ## Cells and tokens -/

/-- The kernel's own semaphores. -/
abbrev osem : Xf × Bool → SemLoc sig := fun k => .dma (semX k)

theorem semX_scoped : ∀ k : Xf × Bool, (osem k).isScoped .tc = true := by decide +kernel
theorem semX_own : ∀ (k : Xf × Bool) (w : Fin 6) (s : Fin (cfg0.spec w).nbuf), osem k ≠ .dma ((cfg0.spec w).sem s) := by decide +kernel
theorem ownSemFacts : Pipeline.OwnSemFacts cfg0.spec osem :=
  ⟨semX_scoped, fun _ _ h => semX_inj (SemLoc.dma.inj h), semX_own⟩

theorem share_eq (c : Dev nD) (w : Fin cfg0.W) : (dats m ρ 0 c).share w = fullShare := by unfold Dat.share; split <;> rfl

theorem ckSem_injective : Function.Injective ckSem
  | none, none, _ => rfl
  | none, some _, h => by cases h
  | some _, none, h => by cases h
  | some _, some _, h => congrArg some (semX_inj (SemLoc.dma.inj h))
theorem kcell_injective : Function.Injective (kcell : Dev nD × CK → GSem nD τ sig) := fun p q h => by
  have h1 : p.1 = q.1 := congrArg (fun g : GSem nD τ sig => g.1.1) h
  exact Prod.ext h1 (ckSem_injective (congrArg Prod.snd h))
def ringCells : Finset (GSem nD τ sig) := Finset.univ.map ⟨kcell, kcell_injective⟩

/-- A device's own cells' duties: the barrier's two, and one of each transfer semaphore. -/
abbrev TK : Type := Bool ⊕ (Xf × Bool)
def tokOf (p : Dev nD × TK) : GSem nD τ sig × ℕ × Bool := match p.2 with
  | .inl b => (barCell p.1, 0, b)
  | .inr k => (kcell (p.1, some k), 0, false)
theorem tokOf_injective : Function.Injective tokOf := by
  rintro ⟨c, j⟩ ⟨c', j'⟩ h
  rcases j with b | k <;> rcases j' with b' | k'
  · have h1 : c = c' := congrArg (fun x : GSem nD τ sig × ℕ × Bool => x.1.1.1) h
    have h2 : b = b' := congrArg (fun x : GSem nD τ sig × ℕ × Bool => x.2.2) h
    rw [h1, h2]
  · have h1 : (SemLoc.reg barS : SemLoc sig) = .dma (semX k') := congrArg (fun x : GSem nD τ sig × ℕ × Bool => x.1.2) h
    cases h1
  · have h1 : (SemLoc.dma (semX k) : SemLoc sig) = .reg barS := congrArg (fun x : GSem nD τ sig × ℕ × Bool => x.1.2) h
    cases h1
  · have h1 : c = c' := congrArg (fun x : GSem nD τ sig × ℕ × Bool => x.1.1.1) h
    have h2 : k = k' := semX_inj (SemLoc.dma.inj (congrArg (fun x : GSem nD τ sig × ℕ × Bool => x.1.2) h))
    rw [h1, h2]
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

theorem bigSep_bool (Φ : Bool → sProp 𝕄) : bigSep Finset.univ Φ = iprop(Φ false ∗ Φ true) := bigSep_univ_eq_bigSepL [false, true] (by decide) (by decide) Φ
theorem bigSep_pairs (Φ : Xf × Bool → sProp 𝕄) : bigSep Finset.univ Φ
    = iprop((bigSep Finset.univ fun x : Xf => Φ (x, false)) ∗ bigSep Finset.univ fun x : Xf => Φ (x, true)) := by
  rw [bigSep_univ_prod, ← bigSep_sep']
  exact bigSep_congr fun x _ => bigSep_bool _
/-- A family over the cells of a device: the barrier's, then the senders', then the receivers'. -/
theorem bigSep_ck (Φ : CK → sProp 𝕄) : bigSep Finset.univ Φ
    = iprop(Φ none ∗ (bigSep Finset.univ fun x : Xf => Φ (some (x, false))) ∗ bigSep Finset.univ fun x : Xf => Φ (some (x, true))) := by
  have h1 : bigSep Finset.univ Φ = iprop(Φ none ∗ bigSep Finset.univ fun k : Xf × Bool => Φ (some k)) := by
    rw [show (Finset.univ : Finset CK) = insert none (Finset.univ.map ⟨some, Option.some_injective _⟩) from by ext k; cases k <;> simp,
      BI.bigSep_insert (by simp), BI.bigSep_map]; rfl
  rw [h1, bigSep_pairs]

/-- The duty tokens of a device's own cells. -/
def toks (c : Dev nD) : sProp 𝕄 :=
  iprop((dutyTok ER (barCell c) 0 false ∗ dutyTok ER (barCell c) 0 true)
    ∗ (bigSep Finset.univ fun x : Xf => dutyTok ER (sndCell c x) 0 false) ∗ bigSep Finset.univ fun x : Xf => dutyTok ER (rcvCell c x) 0 false)

def G (c : Dev nD) : sProp 𝕄 :=
  iprop((bigSep Finset.univ fun k : CK => roundState ER (ringRd m) (kcell (c, k)) 0)
    ∗ ((bigSep Finset.univ fun k : CK => atPos ER (kcell (c, k)) 0 ∅ 0) ∗ bigSep Finset.univ fun k : CK => reached ER (kcell (c, k)) 0) ∗ toks c)

/-- What everyone knows before the levels: the invariants and the opened rounds. -/
def known (K : Dev nD × CK → ℕ) : sProp 𝕄 :=
  iprop((bigSep Finset.univ fun ck : Dev nD × CK => cellInv ER (ringRd m) (K ck) (kcell ck))
    ∗ bigSep Finset.univ fun ck : Dev nD × CK => reached ER (kcell ck) 0)
instance known_persistent (K : Dev nD × CK → ℕ) : BI.Persistent (known (F := F) m K) := by unfold known; infer_instance

def G' (c : Dev nD) : sProp 𝕄 := iprop(∃ K, known m K ∗ linear c)

theorem fund_ring : BI.own (ER (initOf ringCells ringToks)) ⊢ (|==> bigSep Finset.univ (G (F := F) m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [BI.bigSep_univ_sum, bigSep_pairs, bigSep_bool]; rfl
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem ownSems0_eq (c : Dev nD) : (Pipeline.ownSems0 (Ix := Unit) (Name := ℕ) (U := UU) (Lvl := ℕ) (Val := Elt F) (τ := τ) osem c : sProp 𝕄)
    = iprop((bigSep Finset.univ fun x : Xf => semVal (sndCell c x) 0) ∗ bigSep Finset.univ fun x : Xf => semVal (rcvCell c x) 0) := by
  unfold Pipeline.ownSems0; rw [bigSep_pairs]; rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_ck]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (ringRd m) κ (kcell (c, k))))
          ∗ ((bigSep Finset.univ fun k : CK => atPos ER (kcell (c, k)) 0 ∅ 0) ∗ bigSep Finset.univ fun k : CK => reached ER (kcell (c, k)) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m) (kcell (c, k)) 0)
      ⊢ (|={Set.univ}=> bigSep Finset.univ fun k : CK => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family over devices and transfers may be read at the transfer's own partner. -/
theorem around (Φ : Dev nD → Xf → sProp 𝕄) :
    (bigSep Finset.univ fun c : Dev nD => bigSep Finset.univ fun x : Xf => Φ c x)
      = bigSep Finset.univ fun c : Dev nD => bigSep Finset.univ fun x : Xf => Φ (tgt c x) x := by
  let e : Dev nD × Xf ≃ Dev nD × Xf := ⟨fun p => (tgt p.1 p.2, p.2), fun p => (org p.1 p.2, p.2), fun p => Prod.ext (org_tgt p.1 p.2) rfl, fun p => Prod.ext (tgt_org p.1 p.2) rfl⟩
  rw [← bigSep_univ_prod (fun p : Dev nD × Xf => Φ p.1 p.2), bigSep_univ_equiv e, bigSep_univ_prod]; rfl

/-- The tokens dealt to who pays with them, with the positions. -/
theorem deal : iprop((bigSep Finset.univ fun c : Dev nD => bigSep Finset.univ fun k : CK => atPos ER (kcell (c, k)) 0 ∅ 0) ∗ bigSep Finset.univ fun c : Dev nD => (toks c : sProp 𝕄))
    ⊢ bigSep Finset.univ fun c : Dev nD => linear c := by
  have e (c : Dev nD) : (bigSep Finset.univ fun k : CK => (atPos ER (kcell (c, k)) 0 ∅ 0 : sProp 𝕄))
      = iprop(atPos ER (barCell c) 0 ∅ 0 ∗ (bigSep Finset.univ fun x : Xf => atPos ER (sndCell c x) 0 ∅ 0) ∗ bigSep Finset.univ fun x : Xf => atPos ER (rcvCell c x) 0 ∅ 0) := bigSep_ck _
  rw [bigSep_congr fun c _ => e c]
  unfold toks linear barTok sndTok
  simp only [bigSep_sep']
  rw [bigSep_univ_equiv turn (fun c : Dev nD => (dutyTok ER (barCell c) 0 false : sProp 𝕄)),
    bigSep_univ_equiv turn.symm (fun c : Dev nD => (dutyTok ER (barCell c) 0 true : sProp 𝕄)),
    around (fun c x => (dutyTok ER (rcvCell c x) 0 false : sProp 𝕄))]
  iintro ⟨⟨HaB, HaS, HaV⟩, ⟨HtF, HtT⟩, HtS, HtV⟩
  isplitl [HtF HtT HaB]
  · isplitl [HtT]; · iexact HtT
    isplitl [HtF]; · iexact HtF
    iexact HaB
  isplitl [HtS HtV HaS]
  · isplitl [HtS]; · iexact HtS
    isplitl [HtV]; · iexact HtV
    iexact HaS
  iexact HaV

theorem share_known {I : Type} {S : Finset I} {R : sProp 𝕄} [BI.Persistent R] {Φ Ψ : I → sProp 𝕄}
    (h : ∀ i, iprop(R ∗ Φ i) ⊢ Ψ i) : iprop(R ∗ bigSep S Φ) ⊢ bigSep S Ψ := by
  classical
  exact (BI.sep_mono_l (BI.bigSep_of_persistent S R)).trans ((Entails.of_eq (bigSep_sep' S (fun _ => R) Φ).symm).trans (bigSep_mono fun i _ => h i))

theorem regroup :
    (bigSep Finset.univ fun c : Dev nD => iprop((bigSep Finset.univ fun k : CK => iprop(∃ κ : ℕ, cellInv ER (ringRd m) κ (kcell (c, k))))
          ∗ ((bigSep Finset.univ fun k : CK => atPos ER (kcell (c, k)) 0 ∅ 0) ∗ bigSep Finset.univ fun k : CK => reached ER (kcell (c, k)) 0) ∗ toks c) : sProp 𝕄)
      ⊢ bigSep Finset.univ (G' m) := by
  rw [bigSep_sep', bigSep_sep', bigSep_sep', ← bigSep_univ_prod (fun ck : Dev nD × CK => iprop(∃ κ : ℕ, cellInv ER (ringRd m) κ (kcell ck))),
    ← bigSep_univ_prod (fun ck : Dev nD × CK => (reached ER (kcell ck) 0 : sProp 𝕄))]
  classical
  iintro ⟨HI, ⟨Hat, #HR⟩, Htok⟩
  ihave HK := (BI.bigSep_exists_pi Finset.univ (fun (ck : Dev nD × CK) (κ : ℕ) => (cellInv ER (ringRd m) κ (kcell ck) : sProp 𝕄))) $$ HI
  icases HK with ⟨%K, #HI⟩
  ihave Hl := (deal (F := F)) $$ [Hat Htok]
  · isplitl [Hat] <;> iassumption
  iapply (share_known (R := known m K) (Φ := fun c : Dev nD => linear c) (Ψ := G' m) fun c => by
    unfold G'; iintro H; iexists K; iexact H)
  isplitr
  · unfold known; isplitl; · iexact HI
    iexact HR
  iexact Hl

/-- The one ghost step at the launch. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem bar_eq_iff {a b : Dev nD} : barCell a = barCell b ↔ a = b :=
  ⟨fun h => congrArg (fun g : GSem nD τ sig => g.1.1) h, fun h => h ▸ rfl⟩
theorem rcv_eq_iff {a b : Dev nD} {x y : Xf} : rcvCell a x = rcvCell b y ↔ a = b ∧ x = y :=
  ⟨fun h => ⟨congrArg (fun g : GSem nD τ sig => g.1.1) h,
    congrArg Prod.fst (semX_inj (a₁ := (x, true)) (a₂ := (y, true)) (SemLoc.dma.inj (congrArg Prod.snd h)))⟩, fun ⟨h, h'⟩ => h ▸ h' ▸ rfl⟩
theorem rcv_ne_bar {a b : Dev nD} {x : Xf} : rcvCell a x ≠ barCell b := fun h => by cases congrArg Prod.snd h

/-- A list of operations owes a receiver one piece for each copy to it. -/
theorem owed_rcv (d c : Dev nD) (x : Xf) : ∀ ops : List Op, owed d ops (rcvCell c x) () = if c = tgt d x then N * ops.count (.send x) else 0
  | [] => by simp [owed]
  | .send y :: t => by
      show owed d t (rcvCell c x) () + tallyAt (rcvCell (tgt d y) y) () N (rcvCell c x) () = _
      rw [owed_rcv d c x t, tallyAt_apply, List.count_cons]
      by_cases h : c = tgt d x
      · by_cases hy : y = x
        · subst hy; rw [if_pos h, if_pos ⟨rcv_eq_iff.mpr ⟨h, rfl⟩, rfl⟩, if_pos h, if_pos (by simp)]; ring
        · rw [if_pos h, if_neg (fun hh => hy (rcv_eq_iff.mp hh.1).2.symm), if_pos h, if_neg (by simpa using hy)]; rfl
      · rw [if_neg h, if_neg h, if_neg (fun hh => h (by obtain ⟨h1, h2⟩ := rcv_eq_iff.mp hh.1; rw [h1, h2]))]
  | .recv y :: t => by
      show owed d t (rcvCell c x) () = _
      rw [owed_rcv d c x t, List.count_cons_of_ne (by simp)]
  | .swait y :: t => by
      show owed d t (rcvCell c x) () = _
      rw [owed_rcv d c x t, List.count_cons_of_ne (by simp)]
  | .ldR _ _ :: t => by
      show owed d t (rcvCell c x) () = _
      rw [owed_rcv d c x t, List.count_cons_of_ne (by simp)]
  | .ldL _ _ :: t => by
      show owed d t (rcvCell c x) () = _
      rw [owed_rcv d c x t, List.count_cons_of_ne (by simp)]

theorem count_prog : ∀ x : Xf, prog.count (.send x) = 1 := by decide +kernel

theorem owed_bar (d c : Dev nD) (ops : List Op) : owed d ops (barCell c) () = 0 := by
  by_contra h
  obtain ⟨x, -, e⟩ := owed_pos d ops (barCell c) () (Nat.pos_of_ne_zero h)
  exact rcv_ne_bar e.symm

theorem start_rcv (d c : Dev nD) (x : Xf) : O₀ d (rcvCell c x) () = if d = org c x then N else 0 := by
  show owed d prog (rcvCell c x) () + tallyAt (barCell (nxt d)) () 1 (rcvCell c x) () + tallyAt (barCell (prv d)) () 1 (rcvCell c x) () = _
  rw [owed_rcv, count_prog, tallyAt_apply, tallyAt_apply, if_neg (c := _ ∧ _) (fun h => rcv_ne_bar h.1), if_neg (c := _ ∧ _) (fun h => rcv_ne_bar h.1)]
  by_cases h : d = org c x
  · rw [if_pos h, if_pos (by rw [h, tgt_org])]; omega
  · rw [if_neg h, if_neg (fun hh => h (by rw [hh, org_tgt]))]
theorem start_bar (d c : Dev nD) : O₀ d (barCell c) () = (if d = prv c then 1 else 0) + (if d = nxt c then 1 else 0) := by
  show owed d prog (barCell c) () + tallyAt (barCell (nxt d)) () 1 (barCell c) () + tallyAt (barCell (prv d)) () 1 (barCell c) () = _
  rw [owed_bar, tallyAt_apply, tallyAt_apply, Nat.zero_add]
  congr 1
  · by_cases h : d = prv c
    · subst h; rw [nxt_prv, if_pos ⟨rfl, rfl⟩, if_pos rfl]
    · rw [if_neg (fun ⟨h1, _⟩ => h (by rw [bar_eq_iff.mp h1, prv_nxt])), if_neg h]
  · by_cases h : d = nxt c
    · subst h; rw [prv_nxt, if_pos ⟨rfl, rfl⟩, if_pos rfl]
    · rw [if_neg (fun ⟨h1, _⟩ => h (by rw [bar_eq_iff.mp h1, nxt_prv])), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => start_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_rcv (c : Dev nD) (x : Xf) :
    tallyOn (rcvCell c x) (launchCredit (Pipeline.owing O₀) 0 (rcvCell c x)) = (tallyAt (rcvCell c x) () N : CellTallies nD τ sig Unit) := by
  unfold tallyAt; refine congrArg _ (Finsupp.ext fun u => ?_); cases u
  rw [Pipeline.launchCredit_owing, Finsupp.single_eq_same, Finset.sum_congr rfl fun d _ => start_rcv d c x, Finset.sum_ite_eq' Finset.univ (org c x) fun _ => N,
    if_pos (Finset.mem_univ _)]

theorem rcvLoc_inj : Function.Injective fun x : Xf => (SemLoc.dma (rcvS x) : SemLoc sig) := fun x y h =>
  congrArg Prod.fst (semX_inj (a₁ := (x, true)) (a₂ := (y, true)) (SemLoc.dma.inj h))

theorem creds (c : Dev nD) : (Pipeline.launchCred O₀ c : sProp 𝕄) ⊢ credits c := by
  unfold Pipeline.launchCred credits
  rw [bigSep_univ_at _ (SemLoc.reg barS), launch_bar]
  refine BI.sep_mono_r ?_
  refine BI.Entails.trans (BI.bigSep_subset (t := Finset.univ.map ⟨_, rcvLoc_inj⟩) fun sm h => ?_) ?_
  · obtain ⟨x, -, rfl⟩ := Finset.mem_map.mp h
    exact Finset.mem_erase.mpr ⟨(fun h => by cases h), Finset.mem_univ _⟩
  · rw [bigSep_map]
    exact Entails.of_eq (bigSep_congr fun x _ => congrArg cred (launch_rcv c x))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G'
  iintro ⟨-, Hlev, Hcr, -, ⟨%K, HK, Hlin⟩⟩
  ihave Hc := (creds (F := F) c) $$ Hcr
  imodintro
  unfold start known
  icases HK with ⟨HI, HR⟩
  isplitl
  · isplitl [HI HR Hlev Hlin]
    · iexists K
      isplitl [HI HR Hlev]
      · unfold records
        isplitl [HI]; · iexact HI
        isplitl [HR]; · iexact HR
        iexact Hlev
      iexact Hlin
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁
  iintro ⟨HR, HL, HzB, Hz⟩
  isplitl [HzB]; · iexact HzB
  isplitl [Hz]; · iexact Hz
  isplitl [HR]; · iexists _; iexact HR
  iexists _; iexact HL

theorem O₀_pos (c : Dev nD) (g : GSem nD τ sig) (u : Unit) (h : 0 < O₀ c g u) : g.1.2 = .tc ∧ 0 < lv g () := by
  have e : O₀ c g u = owed c prog g u + tallyAt (barCell (nxt c)) () 1 g u + tallyAt (barCell (prv c)) () 1 g u := rfl
  rw [e, tallyAt_apply, tallyAt_apply] at h
  by_cases h1 : g = barCell (nxt c) ∧ u = ()
  · rw [h1.1]; exact ⟨rfl, by rw [lv_bar]; decide⟩
  by_cases h2 : g = barCell (prv c) ∧ u = ()
  · rw [h2.1]; exact ⟨rfl, by rw [lv_bar]; decide⟩
  rw [if_neg h1, if_neg h2] at h
  obtain ⟨x, -, rfl⟩ := owed_pos c prog g u (by omega)
  exact ⟨rfl, by rw [lv_rcv]; omega⟩

theorem stage_dec : ∀ (w : Fin 6) (s : Fin (cfg0.spec w).nbuf), lvD (dec ((cfg0.spec w).sem s)) = 0 := by decide +kernel
theorem stage_level (c : Dev nD) (w : Fin 6) (s : Fin (cfg0.spec w).nbuf) : lv ((c : Thread nD τ), .dma ((cfg0.spec w).sem s)) () = 0 := stage_dec w s

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 0 (stage_level c w s) (O₀ c) (O₀_pos c)
    · exact mayWait_of c _ 0 (stage_level c w s) 0 (fun g u h => absurd h (Nat.lt_irrefl 0))

/-- An array of the kernel after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every fair execution ends, with the result computed, the arguments as they were and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument holds what it held. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

/-- The run with the values dropped: the arguments are as they were, and every semaphore is at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c 0).trans (finalA_in m ρ c 0 rfl), (h.1 c 1).trans (finalA_in m ρ c 1 rfl),
    (h.1 c 2).trans (finalA_in m ρ c 2 rfl), (h.1 c 3).trans (finalA_in m ρ c 3 rfl), (h.1 c 4).trans (finalA_in m ρ c 4 rfl)⟩, h.2⟩) (run_main m ρ)

end Cert.RingAttn

end
-- ==== Proof.Same.lean ====
/-
# The printed kernel and its idealization, over the bits

The two differ only in how the mask's constant is written. Read by its bits, the named constant is the constant printed,
so over the bits the two programs are the same, and a run of one is a run of the other.
-/
module

public import proofs.«01_k».proof.Proof.Launch
public import proofs.«01_k».proof.Defs
public import Idealize.ShloMosaic.Init
public import proofs.«01_k».proof.Proof.Gen.Kernel
public import proofs.«01_k».proof.Proof.Gen.Kernel.Skeleton

@[expose] public section

noncomputable section

namespace Cert.RingAttn

open Idealize.ShloMosaic Idealize.SL.Sem

/-- Over the bits a named constant is the constant printed. -/
@[reducible] def byBits : Named Bits := ⟨fun _ _ φ w => Scalar.ofBits φ w⟩

set_option maxRecDepth 1000000 in
set_option maxHeartbeats 0 in
/-- The kernel's body is the idealized one. -/
theorem same_body : Cert.Kernel.cc0_body (F := Bits) = (letI := byBits; Cert.KernelIdeal.cc0_body (F := Bits)) := rfl

/-- The table of bodies is the idealized one. -/
theorem same_bodies : Cert.Kernel.defs₀ (F := Bits) = (letI := byBits; Cert.KernelIdeal.defs₀ (F := Bits)) := by
  unfold Cert.Kernel.defs₀ Cert.KernelIdeal.defs₀
  congr 1
  funext a b
  match a, b with
  | 0, (t, s) =>
    show Cert.Kernel.cc0_body (F := Bits) _ _ _ _ _ _ _ _ _ _ _ _ _ _ _ _ _ _ _ _
      = (letI := byBits; Cert.KernelIdeal.cc0_body (F := Bits)) _ _ _ _ _ _ _ _ _ _ _ _ _ _ _ _ _ _ _ _
    rw [same_body]

/-- Every label runs what the idealized program's runs. -/
theorem same_defs : Cert.Kernel.defs (F := Bits) = (letI := byBits; Cert.KernelIdeal.defs (F := Bits)) :=
  congrArg (Pipeline.defs (Cert.KernelIdeal.pcfgs (F := Bits))) same_bodies

theorem same_main : Cert.Kernel.main (F := Bits) = (letI := byBits; Cert.KernelIdeal.main (F := Bits)) := rfl

/-- The printed kernel's frame. -/
theorem frame_kernel : Cert.quiescent_Kernel := fun m ρ _ => by
  rw [same_defs, same_main]
  exact (letI := byBits; run_frame (F := Bits) m ρ)

theorem frame_ideal : Cert.quiescent_KernelIdeal := fun m ρ _ => run_frame (F := Ideal) m ρ

end Cert.RingAttn

end
-- ==== Proof.Fold.lean ====
/-
# One slot's contribution, once

Each of the sixteen slots adds to the two accumulators the same way: scores against the slot's keys, a bias that lets a
key through or keeps it out, exponentials, a product with the slot's values and a sum. The kernel's text repeats this for
each slot; here it is written once and each accumulator is shown to be it. At the extended reals one entry of a
contribution is a sum over the slot's keys.
-/
module

public import proofs.«01_k».proof.Proof.Outcome
public import Idealize.ShloMosaic.Lib.Pointwise

@[expose] public section

noncomputable section

namespace Cert.RingAttn

open Cert.KernelIdeal Cert.KernelIdeal.Gen
open Idealize.ShloMosaic
open Idealize.ShloMosaic.TcCoe

section Steps

variable {F : FTy → Type} [FloatOps F] [Named F]

/-- The weights of one slot: the exponentials of the biased scores. -/
def wts (q : FVec F S8x256x64 .bf16) (bias : FVec F S8x256x256 .f32) (k : FVec F S8x256x64 .bf16) : FVec F S8x256x256 .f32 :=
  exp (addf (matmul dot_S8x256x64_S8x256x64_S8x256x256_2_2_1_1_0_0 none q k (constant S8x256x256 .f32 0x00000000#32)) bias)

/-- One slot into the numerator. -/
def stepN (q : FVec F S8x256x64 .bf16) (bias : FVec F S8x256x256 .f32) (k v : FVec F S8x256x64 .bf16) (n : FVec F S8x256x64 .f32) :
    FVec F S8x256x64 .f32 :=
  addf n (matmul dot_S8x256x256_S8x256x64_S8x256x64_2_1_1_2_0_0 none (truncf .bf16 (wts q bias k) bitsLt_bf16_f32) v (constant S8x256x64 .f32 0x00000000#32))

/-- One slot into the denominator. -/
def stepD (q : FVec F S8x256x64 .bf16) (bias : FVec F S8x256x256 .f32) (k : FVec F S8x256x64 .bf16) (n : FVec F S8x256x1 .f32) :
    FVec F S8x256x1 .f32 :=
  addf n (shapeCast S8x256x1 (multiReduction .add [2] S8x256 (wts q bias k) 0x00000000#32 reduces_S8x256x256_S8x256 (.inl rfl) rfl) shapeCasts_S8x256_S8x256x1)

/-- A bias that lets a whole slot through or keeps it out. -/
def gate (b : BitVec 1) : FVec F S8x256x256 .f32 :=
  broadcast S8x256x256 (Scalar.select b (Scalar.ofBits .f32 0x00000000#32) (Named.named κ "mask" 0xCE6E6B28#32))

variable (m : (ℓ : Loc nD τ sig) → Buf (Elt F) ℓ) (c : Dev nD)

/-- The gates of the slots that came from the left and from the right. -/
def gateR (s : BitVec 32) : FVec F S8x256x256 .f32 := gate (Scalar.cmpi .sge (me c) s)
def gateL (s : BitVec 32) : FVec F S8x256x256 .f32 := gate (wraps c s)

def stepsN (R : Fin 9) (b : BitVec 32) (n : FVec F S8x256x64 .f32) : FVec F S8x256x64 .f32 :=
  stepN (qv m c) (gateR c b) (k0_pay17 (rdR m c R 0)) (k0_pay17 (rdR m c R 1)) n
def stepsD (R : Fin 9) (b : BitVec 32) (n : FVec F S8x256x1 .f32) : FVec F S8x256x1 .f32 :=
  stepD (qv m c) (gateR c b) (k0_pay17 (rdR m c R 0)) n
def steplN (L : Fin 8) (b : BitVec 32) (n : FVec F S8x256x64 .f32) : FVec F S8x256x64 .f32 :=
  stepN (qv m c) (gateL c b) (k0_pay17 (rdL m c L 0)) (k0_pay17 (rdL m c L 1)) n
def steplD (L : Fin 8) (b : BitVec 32) (n : FVec F S8x256x1 .f32) : FVec F S8x256x1 .f32 :=
  stepD (qv m c) (gateL c b) (k0_pay17 (rdL m c L 0)) n

/-- The own block's bias, for every head. -/
def ownBias : FVec F S8x256x256 .f32 := broadcastTo S8x256x256 (mask0 (F := F)) broadcasts_S1x256x256_S8x256x256

theorem num0_eq : num0 m c = stepN (qv m c) ownBias (k0_pay17 (rdR m c 0 0)) (k0_pay17 (rdR m c 0 1)) k0_pay14 := rfl
theorem den0_eq : den0 m c = stepD (qv m c) ownBias (k0_pay17 (rdR m c 0 0)) k0_pay15 := rfl
theorem numR1_eq : numR1 m c = stepsN m c 1 1#32 (num0 m c) := rfl
theorem denR1_eq : denR1 m c = stepsD m c 1 1#32 (den0 m c) := rfl
theorem numL1_eq : numL1 m c = steplN m c 1 1#32 (numR1 m c) := rfl
theorem denL1_eq : denL1 m c = steplD m c 1 1#32 (denR1 m c) := rfl
theorem numR2_eq : numR2 m c = stepsN m c 2 2#32 (numL1 m c) := rfl
theorem denR2_eq : denR2 m c = stepsD m c 2 2#32 (denL1 m c) := rfl
theorem numL2_eq : numL2 m c = steplN m c 2 2#32 (numR2 m c) := rfl
theorem denL2_eq : denL2 m c = steplD m c 2 2#32 (denR2 m c) := rfl
theorem numR3_eq : numR3 m c = stepsN m c 3 3#32 (numL2 m c) := rfl
theorem denR3_eq : denR3 m c = stepsD m c 3 3#32 (denL2 m c) := rfl
theorem numL3_eq : numL3 m c = steplN m c 3 3#32 (numR3 m c) := rfl
theorem denL3_eq : denL3 m c = steplD m c 3 3#32 (denR3 m c) := rfl
theorem numR4_eq : numR4 m c = stepsN m c 4 4#32 (numL3 m c) := rfl
theorem denR4_eq : denR4 m c = stepsD m c 4 4#32 (denL3 m c) := rfl
theorem numL4_eq : numL4 m c = steplN m c 4 4#32 (numR4 m c) := rfl
theorem denL4_eq : denL4 m c = steplD m c 4 4#32 (denR4 m c) := rfl
theorem numR5_eq : numR5 m c = stepsN m c 5 5#32 (numL4 m c) := rfl
theorem denR5_eq : denR5 m c = stepsD m c 5 5#32 (denL4 m c) := rfl
theorem numL5_eq : numL5 m c = steplN m c 5 5#32 (numR5 m c) := rfl
theorem denL5_eq : denL5 m c = steplD m c 5 5#32 (denR5 m c) := rfl
theorem numR6_eq : numR6 m c = stepsN m c 6 6#32 (numL5 m c) := rfl
theorem denR6_eq : denR6 m c = stepsD m c 6 6#32 (denL5 m c) := rfl
theorem numL6_eq : numL6 m c = steplN m c 6 6#32 (numR6 m c) := rfl
theorem denL6_eq : denL6 m c = steplD m c 6 6#32 (denR6 m c) := rfl
theorem num7_eq : num7 m c = steplN m c 7 7#32 (stepsN m c 7 7#32 (numL6 m c)) := rfl
theorem den7_eq : den7 m c = steplD m c 7 7#32 (stepsD m c 7 7#32 (denL6 m c)) := rfl
theorem num8_eq : num8 m c = stepsN m c 8 8#32 (num7 m c) := rfl
theorem den8_eq : den8 m c = stepsD m c 8 8#32 (den7 m c) := rfl

end Steps

/-! ## At the extended reals -/

theorem wts_apply (q : FVec Ideal S8x256x64 .bf16) (bias : FVec Ideal S8x256x256 .f32) (k : FVec Ideal S8x256x64 .bf16)
    (r : Fin 8) (i j : Fin 256) :
    wts q bias k (ix3 r i j) = Ideal.exp ((∑ e : Fin 64, q (ix3 r i e) * k (ix3 r j e)) + bias (ix3 r i j)) := by
  pointwise [wts]

theorem stepN_apply (q : FVec Ideal S8x256x64 .bf16) (bias : FVec Ideal S8x256x256 .f32) (k v : FVec Ideal S8x256x64 .bf16)
    (n : FVec Ideal S8x256x64 .f32) (r : Fin 8) (i : Fin 256) (e : Fin 64) :
    stepN q bias k v n (ix3 r i e) = n (ix3 r i e) + ∑ j : Fin 256, wts q bias k (ix3 r i j) * v (ix3 r j e) := by
  pointwise [stepN]

theorem stepD_apply (q : FVec Ideal S8x256x64 .bf16) (bias : FVec Ideal S8x256x256 .f32) (k : FVec Ideal S8x256x64 .bf16)
    (n : FVec Ideal S8x256x1 .f32) (r : Fin 8) (i : Fin 256) :
    stepD q bias k n (ix3 r i 0) = n (ix3 r i 0) + ∑ j : Fin 256, wts q bias k (ix3 r i j) := by
  pointwise [stepD]

theorem pay17_apply (x : FVec Ideal S1x2x4x256x64 .bf16) (r : Fin 8) (j : Fin 256) (e : Fin 64) :
    k0_pay17 x (ix3 r j e) = x (ix5 0 ⟨r.val / 4, by omega⟩ ⟨r.val % 4, by omega⟩ j e) := by
  pointwise [k0_pay17]

theorem gate_apply (b : BitVec 1) (i : S8x256x256.Idx) :
    gate (F := Ideal) b i = if b = 1#1 then 0 else ⊥ := by
  have hk : (Named.named κ "mask" 0xCE6E6B28#32 : Ideal .f32) = ⊥ := rfl
  pointwise [gate]
  rw [hk]
  rfl

end Cert.RingAttn

end
-- ==== Proof.Reads.lean ====
/-
# What a slot holds

Every slot read names keys or values of one device's arguments: the slot `s` of one buffer is the device `s` places to
the left, the slot `s` of the other the device `s` places to the right. The queries are the device's own rows times the
query weights and the scale.
-/
module

public import proofs.«01_k».proof.Proof.Fold

@[expose] public section

noncomputable section

namespace Cert.RingAttn

open Cert.KernelIdeal Cert.KernelIdeal.Gen
open Idealize.ShloMosaic
open Idealize.ShloMosaic.TcCoe

variable (m : (ℓ : Loc nD τ sig) → Buf (Elt Ideal) ℓ)

/-- The arguments of one device. -/
abbrev argX (d : Dev nD) : S2x256x512.Idx → EReal := m ((d.tc : Thread nD τ).loc main_arg0)
abbrev argQ (d : Dev nD) : S512x256.Idx → EReal := m ((d.tc : Thread nD τ).loc main_arg1)
abbrev argK (d : Dev nD) : S2x256x4x64.Idx → EReal := m ((d.tc : Thread nD τ).loc main_arg2)
abbrev argV (d : Dev nD) : S2x256x4x64.Idx → EReal := m ((d.tc : Thread nD τ).loc main_arg3)
abbrev argO (d : Dev nD) : S256x512.Idx → EReal := m ((d.tc : Thread nD τ).loc main_arg4)

/-- A whole-array window is the array. -/
theorem xstg_eq (d : Dev nD) : xstg m d = argX m d :=
  Memref.read_access_unit_zero (Elt Ideal) main_arg0 (funext fun a => by fin_cases a <;> decide) (fun a => by fin_cases a <;> decide) _
theorem qstg_eq (d : Dev nD) : qstg m d = argQ m d :=
  Memref.read_access_unit_zero (Elt Ideal) main_arg1 (funext fun a => by fin_cases a <;> decide) (fun a => by fin_cases a <;> decide) _
theorem kstg_eq (d : Dev nD) : kstg m d = argK m d :=
  Memref.read_access_unit_zero (Elt Ideal) main_arg2 (funext fun a => by fin_cases a <;> decide) (fun a => by fin_cases a <;> decide) _
theorem vstg_eq (d : Dev nD) : vstg m d = argV m d :=
  Memref.read_access_unit_zero (Elt Ideal) main_arg3 (funext fun a => by fin_cases a <;> decide) (fun a => by fin_cases a <;> decide) _
theorem ostg_eq (d : Dev nD) : ostg m d = argO m d :=
  Memref.read_access_unit_zero (Elt Ideal) main_arg4 (funext fun a => by fin_cases a <;> decide) (fun a => by fin_cases a <;> decide) _

theorem ixP_eq (b : Fin 2) (h : Fin 4) (i : Fin 256) (e : Fin 64) : ixP b h i e = ix4 b h i e := by
  funext a
  fin_cases a <;> rfl

/-- Half a quarter pair: `g` tells keys (0) from values (1). -/
def argKV (g : Fin 2) (d : Dev nD) : S2x256x4x64.Idx → EReal := if g = 0 then argK m d else argV m d

theorem kvC_apply (d : Dev nD) (g : Fin 2) (b : Fin 2) (h : Fin 4) (i : Fin 256) (e : Fin 64) :
    kvC m d (2 * g.val + b.val) h i e = argKV m g d (ix4 b i h e) := by
  have hb : ∀ g b : Fin 2, (2 * g.val + b.val) % 2 = b.val := by decide
  have hlt : ∀ g b : Fin 2, (2 * g.val + b.val < 2) = (g = 0) := by decide
  have e1 : (⟨(2 * g.val + b.val) % 2, Nat.mod_lt _ (by decide)⟩ : Fin 2) = b := Fin.ext (hb g b)
  unfold kvC argKV
  rw [e1, ixP_eq, kstg_eq, vstg_eq]
  by_cases hg : g = 0
  · subst hg
    rw [if_pos rfl, if_pos (by rw [hlt])]
    pointwise [k0_pay3]
  · rw [if_neg hg, if_neg (by rw [hlt]; exact hg)]
    pointwise [k0_pay4]

theorem rdR_apply (c : Dev nD) (s : Fin 9) (g : Fin 2) (r : Fin 8) (j : Fin 256) (e : Fin 64) :
    k0_pay17 (rdR m c s g) (ix3 r j e) = argKV m g (back c s.val) (ix4 ⟨r.val / 4, by omega⟩ j ⟨r.val % 4, by omega⟩ e) := by
  rw [pay17_apply, ← kvC_apply]
  show kvC m (back c (s.val + 1 * 0)) (2 * g.val + 1 * (r.val / 4)) ⟨0 + 1 * (r.val % 4), _⟩ ⟨0 + 1 * j.val, _⟩ ⟨0 + 1 * e.val, _⟩ = _
  simp only [Nat.one_mul, Nat.zero_add, Nat.add_zero, Nat.mul_zero]

theorem rdL_apply (c : Dev nD) (s : Fin 8) (g : Fin 2) (r : Fin 8) (j : Fin 256) (e : Fin 64) :
    k0_pay17 (rdL m c s g) (ix3 r j e) = argKV m g (ahead c s.val) (ix4 ⟨r.val / 4, by omega⟩ j ⟨r.val % 4, by omega⟩ e) := by
  rw [pay17_apply, ← kvC_apply]
  show kvC m (ahead c (s.val + 1 * 0)) (2 * g.val + 1 * (r.val / 4)) ⟨0 + 1 * (r.val % 4), _⟩ ⟨0 + 1 * j.val, _⟩ ⟨0 + 1 * e.val, _⟩ = _
  simp only [Nat.one_mul, Nat.zero_add, Nat.add_zero, Nat.mul_zero]

theorem xrd0_apply (c : Dev nD) (i : Fin 256) (l : Fin 512) : xrd0 m c (ix3 0 i l) = argX m c (ix3 0 i l) := by
  unfold xrd0
  rw [xstg_eq]
  refine congrArg (argX m c) (funext fun a => Fin.ext ?_)
  fin_cases a
  · rfl
  · exact (Nat.zero_add _).trans (Nat.one_mul _)
  · exact (Nat.zero_add _).trans (Nat.one_mul _)
theorem xrd1_apply (c : Dev nD) (i : Fin 256) (l : Fin 512) : xrd1 m c (ix3 0 i l) = argX m c (ix3 1 i l) := by
  unfold xrd1
  rw [xstg_eq]
  refine congrArg (argX m c) (funext fun a => Fin.ext ?_)
  fin_cases a
  · rfl
  · exact (Nat.zero_add _).trans (Nat.one_mul _)
  · exact (Nat.zero_add _).trans (Nat.one_mul _)

/-- The scale both programs multiply the scores by. -/
def scale : EReal := Ideal.ofBits .f32 0x3E000000#32

/-- A query entry. -/
theorem qv_apply (c : Dev nD) (r : Fin 8) (i : Fin 256) (e : Fin 64) :
    qv m c (ix3 r i e) = (∑ l : Fin 512, argX m c (ix3 ⟨r.val / 4, by omega⟩ i l) * argQ m c (ix2 l ⟨r.val % 4 * 64 + e.val, by omega⟩)) * scale := by
  unfold qv
  rw [qstg_eq]
  pointwise [k0_pay9]
  by_cases h : r.val / 4 < 1
  · rw [dif_pos h, show (⟨r.val / 4, by omega⟩ : Fin 2) = 0 from Fin.ext (by show r.val / 4 = 0; omega)]
    simp only [xrd0_apply]
    rfl
  · rw [dif_neg h, show (⟨r.val / 4, by omega⟩ : Fin 2) = 1 from Fin.ext (by show r.val / 4 = 1; omega)]
    simp only [xrd1_apply]
    rfl

/-- The floor division by 64 as the kernel spells it. -/
def flr (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

theorem flr_eq : ∀ j : Fin 256, flr (BitVec.ofNat 32 j.val) = BitVec.ofNat 32 (j.val / 64) := by decide +kernel
theorem sle_eq : ∀ a b : Fin 4, IntOp.cmpi CmpIPredicate.sle (BitVec.ofNat 32 a.val) (BitVec.ofNat 32 b.val) = if a.val ≤ b.val then 1#1 else 0#1 := by
  decide +kernel

/-- The own block's bias: a key is let through when its block isn't after the query's. -/
theorem ownBias_apply (r : Fin 8) (i j : Fin 256) :
    ownBias (F := Ideal) (ix3 r i j) = if j.val / 64 ≤ i.val / 64 then 0 else ⊥ := by
  have hk : (Named.named κ "mask" 0xCE6E6B28#32 : Ideal .f32) = ⊥ := rfl
  pointwise [ownBias, mask0, k0_pay16, k0_pay13, k0_pay12, k0_pay11, k0_pay10]
  rw [hk]
  show Scalar.select (IntOp.cmpi CmpIPredicate.sle (flr (BitVec.ofNat 32 j.val)) (flr (BitVec.ofNat 32 i.val))) (0 : EReal) ⊥ = _
  rw [flr_eq, flr_eq, sle_eq ⟨j.val / 64, by omega⟩ ⟨i.val / 64, by omega⟩]
  by_cases h : j.val / 64 ≤ i.val / 64
  · rw [if_pos h, if_pos h]; rfl
  · rw [if_neg h, if_neg h]; rfl

end Cert.RingAttn

end
-- ==== Proof.Sums.lean ====
/-
# The accumulators as sums over every device

The sixteen slots a device reads are the sixteen devices' keys and values, each once. So the accumulators after the last
slot are sums over all devices of sums over the device's keys, with the same bias whichever buffer a slot stands in: a key
is let through when its device comes before the reading one, or is the reading one and the key's block isn't after the
query's.
-/
module

public import proofs.«01_k».proof.Proof.Reads

@[expose] public section

noncomputable section

namespace Cert.RingAttn

open Cert.KernelIdeal Cert.KernelIdeal.Gen
open Idealize.ShloMosaic
open Idealize.ShloMosaic.TcCoe
open scoped BigOperators

variable (m : (ℓ : Loc nD τ sig) → Buf (Elt Ideal) ℓ)

/-- Whether device `c`'s row `i` may look at device `d`'s key `j`. -/
abbrev sees (c d : Dev nD) (i j : Fin 256) : Prop := d.val < c.val ∨ (d.val = c.val ∧ j.val / 64 ≤ i.val / 64)

/-- One weight: row `i` of device `c` against key `j` of device `d`, for batch entry and head `r`. -/
def wgt (c d : Dev nD) (r : Fin 8) (i j : Fin 256) : EReal :=
  Ideal.exp ((∑ e : Fin 64, qv m c (ix3 r i e) * argK m d (ix4 ⟨r.val / 4, by omega⟩ j ⟨r.val % 4, by omega⟩ e))
    + if sees c d i j then 0 else ⊥)

/-- What a device's keys add to the numerator. -/
def addN (c : Dev nD) (r : Fin 8) (i : Fin 256) (e : Fin 64) (d : Dev nD) : EReal :=
  ∑ j : Fin 256, wgt m c d r i j * argV m d (ix4 ⟨r.val / 4, by omega⟩ j ⟨r.val % 4, by omega⟩ e)
/-- What they add to the denominator. -/
def addD (c : Dev nD) (r : Fin 8) (i : Fin 256) (d : Dev nD) : EReal := ∑ j : Fin 256, wgt m c d r i j

theorem gateR_dec : ∀ c : Fin 16, ∀ s : Fin 9, s.val ≠ 0 →
    ((Scalar.cmpi .sge (me c) (BitVec.ofNat 32 s.val) = 1#1 ↔ (back c s.val).val < c.val) ∧ (back c s.val).val ≠ c.val) := by decide +kernel
theorem gateL_dec : ∀ c : Fin 16, ∀ s : Fin 8, s.val ≠ 0 →
    ((wraps c (BitVec.ofNat 32 s.val) = 1#1 ↔ (ahead c s.val).val < c.val) ∧ (ahead c s.val).val ≠ c.val) := by decide +kernel

theorem gateR_apply (c : Dev nD) (s : Fin 9) (hs : s.val ≠ 0) (r : Fin 8) (i j : Fin 256) :
    gateR (F := Ideal) c (BitVec.ofNat 32 s.val) (ix3 r i j) = if sees c (back c s.val) i j then 0 else ⊥ := by
  obtain ⟨h1, h2⟩ := gateR_dec c s hs
  unfold gateR
  rw [gate_apply]
  refine if_congr (h1.trans ⟨Or.inl, fun h => h.resolve_right fun h => h2 h.1⟩) rfl rfl

theorem gateL_apply (c : Dev nD) (s : Fin 8) (hs : s.val ≠ 0) (r : Fin 8) (i j : Fin 256) :
    gateL (F := Ideal) c (BitVec.ofNat 32 s.val) (ix3 r i j) = if sees c (ahead c s.val) i j then 0 else ⊥ := by
  obtain ⟨h1, h2⟩ := gateL_dec c s hs
  unfold gateL
  rw [gate_apply]
  refine if_congr (h1.trans ⟨Or.inl, fun h => h.resolve_right fun h => h2 h.1⟩) rfl rfl

theorem own_apply (c : Dev nD) (r : Fin 8) (i j : Fin 256) :
    ownBias (F := Ideal) (ix3 r i j) = if sees c (back c 0) i j then 0 else ⊥ := by
  rw [ownBias_apply, back_zero]
  exact if_congr ⟨fun h => .inr ⟨rfl, h⟩, fun h => (h.resolve_left (lt_irrefl _)).2⟩ rfl rfl

variable (c : Dev nD) (r : Fin 8) (i : Fin 256) (e : Fin 64)

/-- A slot's contribution, whatever its bias is spelt as. -/
theorem stepN_slot (bias : FVec Ideal S8x256x256 .f32) (k v : FVec Ideal S8x256x64 .bf16) (n : FVec Ideal S8x256x64 .f32) (d : Dev nD)
    (hb : ∀ j, bias (ix3 r i j) = if sees c d i j then 0 else ⊥)
    (hk : ∀ j e, k (ix3 r j e) = argKV m 0 d (ix4 ⟨r.val / 4, by omega⟩ j ⟨r.val % 4, by omega⟩ e))
    (hv : ∀ j e, v (ix3 r j e) = argKV m 1 d (ix4 ⟨r.val / 4, by omega⟩ j ⟨r.val % 4, by omega⟩ e)) :
    stepN (qv m c) bias k v n (ix3 r i e) = n (ix3 r i e) + addN m c r i e d := by
  rw [stepN_apply]
  unfold addN wgt
  simp only [wts_apply, hb, hk, hv]
  rfl

theorem stepD_slot (bias : FVec Ideal S8x256x256 .f32) (k : FVec Ideal S8x256x64 .bf16) (n : FVec Ideal S8x256x1 .f32) (d : Dev nD)
    (hb : ∀ j, bias (ix3 r i j) = if sees c d i j then 0 else ⊥)
    (hk : ∀ j e, k (ix3 r j e) = argKV m 0 d (ix4 ⟨r.val / 4, by omega⟩ j ⟨r.val % 4, by omega⟩ e)) :
    stepD (qv m c) bias k n (ix3 r i 0) = n (ix3 r i 0) + addD m c r i d := by
  rw [stepD_apply]
  unfold addD wgt
  simp only [wts_apply, hb, hk]
  rfl

theorem stepsN_apply (s : Fin 9) (w : BitVec 32) (hw : w = BitVec.ofNat 32 s.val) (hs : s.val ≠ 0) (n : FVec Ideal S8x256x64 .f32) :
    stepsN m c s w n (ix3 r i e) = n (ix3 r i e) + addN m c r i e (back c s.val) := by
  rw [hw]
  exact stepN_slot m c r i e _ _ _ n _ (gateR_apply c s hs r i) (rdR_apply m c s 0 r) (rdR_apply m c s 1 r)
theorem stepsD_apply (s : Fin 9) (w : BitVec 32) (hw : w = BitVec.ofNat 32 s.val) (hs : s.val ≠ 0) (n : FVec Ideal S8x256x1 .f32) :
    stepsD m c s w n (ix3 r i 0) = n (ix3 r i 0) + addD m c r i (back c s.val) := by
  rw [hw]
  exact stepD_slot m c r i _ _ n _ (gateR_apply c s hs r i) (rdR_apply m c s 0 r)
theorem steplN_apply (s : Fin 8) (w : BitVec 32) (hw : w = BitVec.ofNat 32 s.val) (hs : s.val ≠ 0) (n : FVec Ideal S8x256x64 .f32) :
    steplN m c s w n (ix3 r i e) = n (ix3 r i e) + addN m c r i e (ahead c s.val) := by
  rw [hw]
  exact stepN_slot m c r i e _ _ _ n _ (gateL_apply c s hs r i) (rdL_apply m c s 0 r) (rdL_apply m c s 1 r)
theorem steplD_apply (s : Fin 8) (w : BitVec 32) (hw : w = BitVec.ofNat 32 s.val) (hs : s.val ≠ 0) (n : FVec Ideal S8x256x1 .f32) :
    steplD m c s w n (ix3 r i 0) = n (ix3 r i 0) + addD m c r i (ahead c s.val) := by
  rw [hw]
  exact stepD_slot m c r i _ _ n _ (gateL_apply c s hs r i) (rdL_apply m c s 0 r)

theorem num0_apply : num0 m c (ix3 r i e) = addN m c r i e (back c 0) := by
  rw [num0_eq, stepN_slot m c r i e _ _ _ _ (back c 0) (own_apply c r i) (rdR_apply m c 0 0 r) (rdR_apply m c 0 1 r)]
  pointwise [k0_pay14]
theorem den0_apply : den0 m c (ix3 r i 0) = addD m c r i (back c 0) := by
  rw [den0_eq, stepD_slot m c r i _ _ _ (back c 0) (own_apply c r i) (rdR_apply m c 0 0 r)]
  pointwise [k0_pay15]

/-- The devices in the order their slots are read. -/
def order (c : Fin 16) : Fin 16 → Fin 16 :=
  ![back c 0, back c 1, ahead c 1, back c 2, ahead c 2, back c 3, ahead c 3, back c 4, ahead c 4, back c 5, ahead c 5, back c 6,
    ahead c 6, back c 7, ahead c 7, back c 8]

theorem order_inj : ∀ c : Fin 16, Function.Injective (order c) := by decide +kernel

theorem sum_order (T : Dev nD → EReal) : T (back c 0) + T (back c 1) + T (ahead c 1) + T (back c 2) + T (ahead c 2) + T (back c 3)
    + T (ahead c 3) + T (back c 4) + T (ahead c 4) + T (back c 5) + T (ahead c 5) + T (back c 6) + T (ahead c 6) + T (back c 7)
    + T (ahead c 7) + T (back c 8) = ∑ d, T d := by
  rw [← (Finite.injective_iff_bijective.mp (order_inj c)).sum_comp T]
  simp only [Fin.sum_univ_castSucc, Fin.sum_univ_zero, zero_add]
  rfl

theorem num8_apply : num8 m c (ix3 r i e) = ∑ d, addN m c r i e d := by
  rw [← sum_order c, num8_eq, num7_eq, numL6_eq, numR6_eq, numL5_eq, numR5_eq, numL4_eq, numR4_eq, numL3_eq, numR3_eq, numL2_eq, numR2_eq,
    numL1_eq, numR1_eq]
  have hR := fun (s : Fin 9) w hw hs n => stepsN_apply m c r i e s w hw hs n
  have hL := fun (s : Fin 8) w hw hs n => steplN_apply m c r i e s w hw hs n
  rw [hR 8 8#32 rfl (by decide), hL 7 7#32 rfl (by decide), hR 7 7#32 rfl (by decide), hL 6 6#32 rfl (by decide), hR 6 6#32 rfl (by decide), hL 5 5#32 rfl (by decide), hR 5 5#32 rfl (by decide),
    hL 4 4#32 rfl (by decide), hR 4 4#32 rfl (by decide), hL 3 3#32 rfl (by decide), hR 3 3#32 rfl (by decide), hL 2 2#32 rfl (by decide), hR 2 2#32 rfl (by decide), hL 1 1#32 rfl (by decide),
    hR 1 1#32 rfl (by decide), num0_apply]
  rfl

theorem den8_apply : den8 m c (ix3 r i 0) = ∑ d, addD m c r i d := by
  rw [← sum_order c, den8_eq, den7_eq, denL6_eq, denR6_eq, denL5_eq, denR5_eq, denL4_eq, denR4_eq, denL3_eq, denR3_eq, denL2_eq, denR2_eq,
    denL1_eq, denR1_eq]
  have hR := fun (s : Fin 9) w hw hs n => stepsD_apply m c r i s w hw hs n
  have hL := fun (s : Fin 8) w hw hs n => steplD_apply m c r i s w hw hs n
  rw [hR 8 8#32 rfl (by decide), hL 7 7#32 rfl (by decide), hR 7 7#32 rfl (by decide), hL 6 6#32 rfl (by decide), hR 6 6#32 rfl (by decide), hL 5 5#32 rfl (by decide), hR 5 5#32 rfl (by decide),
    hL 4 4#32 rfl (by decide), hR 4 4#32 rfl (by decide), hL 3 3#32 rfl (by decide), hR 3 3#32 rfl (by decide), hL 2 2#32 rfl (by decide), hR 2 2#32 rfl (by decide), hL 1 1#32 rfl (by decide),
    hR 1 1#32 rfl (by decide), den0_apply]
  rfl

/-! ## The result -/

/-- An entry of the attention, before the last product: batch entry `b`, head `h`, row `i`. -/
def att (b : Fin 2) (i : Fin 256) (h : Fin 4) (e : Fin 64) : EReal :=
  Ideal.div (num8 m c (ix3 ⟨b.val * 4 + h.val, by omega⟩ i e)) (den8 m c (ix3 ⟨b.val * 4 + h.val, by omega⟩ i 0))

theorem out0_apply (i : Fin 256) (j : Fin 512) : out0 m c (ix3 0 i j)
    = ∑ k : Fin 256, att m c 0 i ⟨k.val / 64, by omega⟩ ⟨k.val % 64, by omega⟩ * argO m c (ix2 k j) := by
  unfold out0 att
  rw [ostg_eq]
  pointwise [k0_pay1, k0_pay72, k0_pay73, k0_pay74]

theorem out1_apply (i : Fin 256) (j : Fin 512) : out1 m c (ix3 0 i j)
    = ∑ k : Fin 256, att m c 1 i ⟨k.val / 64, by omega⟩ ⟨k.val % 64, by omega⟩ * argO m c (ix2 k j) := by
  unfold out1 att
  rw [ostg_eq]
  pointwise [k0_pay2, k0_pay72, k0_pay73]

/-- An entry of a device's result. -/
theorem outAt_apply (b : Fin 2) (i : Fin 256) (j : Fin 512) : outAt m c (ix3 b i j)
    = ∑ k : Fin 256, att m c b i ⟨k.val / 64, by omega⟩ ⟨k.val % 64, by omega⟩ * argO m c (ix2 k j) := by
  have hix : ixO i j = ix3 0 i j := by
    funext a
    fin_cases a <;> rfl
  show (if b.val = 0 then out0 m c (ixO i j) else out1 m c (ixO i j)) = _
  rw [hix]
  by_cases hb : b.val = 0
  · rw [if_pos hb, out0_apply, show b = 0 from Fin.ext hb]
  · rw [if_neg hb, out1_apply, show b = 1 from Fin.ext (by show b.val = 1; omega)]

end Cert.RingAttn

end
-- ==== Proof.Softmax.lean ====
/-
# One row of attention over the extended reals

The kernel divides a sum of weighted values by the sum of the weights, the weights being exponentials of the scores. The
reference subtracts a number from every score first and divides each weight before it multiplies. With real scores, at
least one key allowed and weight zero for the keys that aren't, the two agree, whatever the values are.
-/
module

public import Idealize.ShloMosaic.PureOps.Ideal

@[expose] public section

noncomputable section

namespace Cert.RingAttn

open Idealize.ShloMosaic
open scoped BigOperators

/-- A score, or minus infinity where the key isn't allowed. -/
def masked (vis : Prop) [Decidable vis] (s : ℝ) : EReal := if vis then (s : EReal) else ⊥

/-- The weight of a masked score. -/
def weight (vis : Prop) [Decidable vis] (s : ℝ) : ℝ := if vis then Real.exp s else 0

theorem exp_masked (vis : Prop) [Decidable vis] (s : ℝ) : Ideal.exp (masked vis s) = (weight vis s : EReal) := by
  unfold masked weight
  split
  · rfl
  · rfl

theorem exp_masked_sub (vis : Prop) [Decidable vis] (s M : ℝ) :
    Ideal.exp (masked vis s - (M : EReal)) = ((weight vis s * Real.exp (-M) : ℝ) : EReal) := by
  unfold masked weight
  split
  · rw [← EReal.coe_sub, ← Real.exp_add, ← sub_eq_add_neg]; rfl
  · rw [zero_mul]
    rfl

theorem weight_nonneg (vis : Prop) [Decidable vis] (s : ℝ) : 0 ≤ weight vis s := by
  unfold weight
  split
  · exact (Real.exp_pos s).le
  · exact le_refl 0

/-- A sum of reals, read in the extended reals. -/
theorem coe_sum {ι : Type*} (S : Finset ι) (f : ι → ℝ) : ∑ j ∈ S, (f j : EReal) = ((∑ j ∈ S, f j : ℝ) : EReal) := by
  classical
  induction S using Finset.induction_on with
  | empty => simp
  | insert a S h ih => rw [Finset.sum_insert h, Finset.sum_insert h, ih, EReal.coe_add]

/-- A real factor that isn't negative moves into a sum. -/
theorem sum_mul_real {ι : Type*} (S : Finset ι) (f : ι → EReal) (r : ℝ) (hr : 0 ≤ r) :
    (∑ j ∈ S, f j) * (r : EReal) = ∑ j ∈ S, f j * (r : EReal) := by
  classical
  induction S using Finset.induction_on with
  | empty => simp
  | insert a S h ih =>
    rw [Finset.sum_insert h, Finset.sum_insert h,
      EReal.right_distrib_of_nonneg_of_ne_top (EReal.coe_nonneg.mpr hr) (EReal.coe_ne_top r), ih]

theorem div_real (x : EReal) (r : ℝ) (hr : r ≠ 0) : Ideal.div x (r : EReal) = x * ((r⁻¹ : ℝ) : EReal) := by
  unfold Ideal.div
  rw [if_neg (fun h => hr (EReal.coe_eq_zero.mp h)), EReal.coe_inv]

/-- The row equation. -/
theorem row {ι : Type*} [Fintype ι] (vis : ι → Prop) [DecidablePred vis] (s : ι → ℝ) (v : ι → EReal) (hv : ∃ j, vis j)
    (M : ℝ) :
    Ideal.div (∑ j, Ideal.exp (masked (vis j) (s j)) * v j) (∑ j, Ideal.exp (masked (vis j) (s j)))
      = ∑ j, v j * Ideal.div (Ideal.exp (masked (vis j) (s j) - (M : EReal)))
          (∑ j, Ideal.exp (masked (vis j) (s j) - (M : EReal))) := by
  simp only [exp_masked, exp_masked_sub, coe_sum]
  have hD : 0 < ∑ j, weight (vis j) (s j) := by
    obtain ⟨j, hj⟩ := hv
    refine Finset.sum_pos' (fun j _ => weight_nonneg _ _) ⟨j, Finset.mem_univ j, ?_⟩
    unfold weight
    rw [if_pos hj]
    exact Real.exp_pos _
  have hM := Real.exp_pos (-M)
  rw [← Finset.sum_mul, div_real _ _ hD.ne', sum_mul_real _ _ _ (inv_nonneg.mpr hD.le)]
  refine Finset.sum_congr rfl fun j _ => ?_
  rw [div_real _ _ (mul_pos hD hM).ne', ← EReal.coe_mul, mul_comm (weight (vis j) (s j) : EReal) (v j), mul_assoc,
    ← EReal.coe_mul]
  congr 2
  field_simp

/-- The greatest of masked scores is real when one key is allowed. -/
theorem max_real {ι : Type*} [Fintype ι] (vis : ι → Prop) [DecidablePred vis] (s : ι → ℝ) (hv : ∃ j, vis j) :
    ∃ M : ℝ, Finset.univ.fold max ⊥ (fun j => masked (vis j) (s j)) = (M : EReal) := by
  obtain ⟨j, hj⟩ := hv
  have hne : Finset.univ.fold max ⊥ (fun j => masked (vis j) (s j)) ≠ ⊥ := by
    intro h
    have h1 : masked (vis j) (s j) ≤ ⊥ := by
      rw [← h]
      exact (Finset.le_fold_max _).mpr (Or.inr ⟨j, Finset.mem_univ j, le_refl _⟩)
    unfold masked at h1
    rw [if_pos hj] at h1
    exact absurd (le_bot_iff.mp h1) (EReal.coe_ne_bot _)
  have hnt : Finset.univ.fold max ⊥ (fun j => masked (vis j) (s j)) ≠ ⊤ := by
    refine ne_of_lt ((Finset.fold_max_lt _).mpr ⟨bot_lt_top, fun i _ => ?_⟩)
    unfold masked
    split
    · exact EReal.coe_lt_top _
    · exact bot_lt_top
  exact ⟨_, (EReal.coe_toReal hnt hne).symm⟩

end Cert.RingAttn

end
-- ==== Proof.Ref.lean ====
/-
# The reference's result, entry by entry

The reference's one long term is cut into its stages — scores, mask, greatest score, weights, their sum, the weighted
values — and each stage is read at an index.
-/
module

public import proofs.«01_k».proof.Proof.Gen.ReferenceIdeal.Run
public import Idealize.ShloMosaic.Lib.Pointwise

@[expose] public section

noncomputable section

namespace Cert.RingRef

open Cert.ReferenceIdeal Cert.ReferenceIdeal.Gen Cert.ReferenceIdeal.Value
open Idealize.ShloMosaic
open Idealize.ShloMosaic.TcCoe
open scoped BigOperators

section Stages

variable {F : FTy → Type} [FloatOps F]

/-- The floor division of every position by 64. -/
def blockOf : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- Which key each row may look at. -/
def maskR : IVec S2x4x4096x4096 1 :=
  broadcastInDim S2x4x4096x4096 ![0, 1, 2, 3] bcast_S1x1x4096x4096_S2x4x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 blockOf)) (broadcastInDim S4096x4096 ![0, 1] bcast_S4096x1_S4096x4096_0_1 (broadcastInDim S4096x1 ![0] bcast_S4096_S4096x1_0 blockOf))))

variable (x : FVec F S2x4096x512 .bf16) (q : FVec F S512x256 .bf16) (k v : FVec F S2x4096x4x64 .bf16) (o : FVec F S256x512 .bf16)

/-- The scaled scores. -/
def scoreR : FVec F S2x4x4096x4096 .f32 :=
  mulf (Host.dotGeneral dot_S2x4096x4x64_S2x4096x4x64_S2x4x4096x4096_3_3_1_1_02_02 none (shapeCast _ (Host.dotGeneral dot_S2x4096x512_S512x256_S2x4096x256_2_0_01_1_n_n none (extf .f32 x bitsLt_bf16_f32) (extf .f32 q bitsLt_bf16_f32)) shapeCasts_S2x4096x256_S2x4096x4x64) (extf .f32 k bitsLt_bf16_f32)) (broadcastInDim S2x4x4096x4096 ![] bcast_S_S2x4x4096x4096 (constant S_ .f32 0x3E000000#32))

/-- The masked scores. -/
def selR : FVec F S2x4x4096x4096 .f32 :=
  select maskR (scoreR x q k) (broadcastInDim S2x4x4096x4096 ![] bcast_S_S2x4x4096x4096 (id (constant S_ .f32 0xFF800000#32)))

/-- A row's greatest score. -/
def maxR (s : FVec F S2x4x4096x4096 .f32) : FVec F S2x4x4096 .f32 :=
  Host.reduce FloatOps.maximumf s (constant S_ .f32 0xFF800000#32) reducesTo_S2x4x4096x4096_S2x4x4096_d3 h_S_

/-- The weights before they are divided. -/
def expR (s : FVec F S2x4x4096x4096 .f32) : FVec F S2x4x4096x4096 .f32 :=
  Host.exp (subf s (broadcastInDim S2x4x4096x4096 ![0, 1, 2, 3] bcast_S2x4x4096x1_S2x4x4096x4096_0_1_2_3 (broadcastInDim S2x4x4096x1 ![0, 1, 2] bcast_S2x4x4096_S2x4x4096x1_0_1_2 (maxR s))))

/-- The weights. -/
def divR (w : FVec F S2x4x4096x4096 .f32) : FVec F S2x4x4096x4096 .f32 :=
  Host.divf w (broadcastInDim S2x4x4096x4096 ![0, 1, 2, 3] bcast_S2x4x4096x1_S2x4x4096x4096_0_1_2_3 (broadcastInDim S2x4x4096x1 ![0, 1, 2] bcast_S2x4x4096_S2x4x4096x1_0_1_2 (Host.reduceAdd w (constant S_ .f32 0x00000000#32) reducesTo_S2x4x4096x4096_S2x4x4096_d3 h_S_)))

/-- The weighted values times the output weights. -/
def outR (w : FVec F S2x4x4096x4096 .f32) : FVec F S2x4096x512 .f32 :=
  Host.dotGeneral dot_S2x4096x256_S256x512_S2x4096x512_2_0_01_1_n_n none (shapeCast _ (transpose S2x4096x4x64 [0, 3, 1, 2] (Host.dotGeneral dot_S2x4096x4x64_S2x4x4096x4096_S2x4x64x4096_1_3_3_2_02_01 none (extf .f32 v bitsLt_bf16_f32) w) transposes_S2x4x64x4096_S2x4096x4x64_0_3_1_2) shapeCasts_S2x4096x4x64_S2x4096x256) (extf .f32 o bitsLt_bf16_f32)

end Stages

set_option maxRecDepth 100000 in
/-- The reference's result is its stages in turn. -/
theorem result_eq {F : FTy → Type} [FloatOps F] (m : (ℓ : Loc nD τ sig) → Buf (Elt F) ℓ) (c : Dev nD) :
    res_main_v33 m c = outR (m ((c.tc : Thread nD τ).loc main_arg3)) (m ((c.tc : Thread nD τ).loc main_arg4))
      (divR (expR (selR (m ((c.tc : Thread nD τ).loc main_arg0)) (m ((c.tc : Thread nD τ).loc main_arg1)) (m ((c.tc : Thread nD τ).loc main_arg2))))) := rfl

/-! ## At the extended reals -/

variable (x : FVec Ideal S2x4096x512 .bf16) (q : FVec Ideal S512x256 .bf16) (k v : FVec Ideal S2x4096x4x64 .bf16) (o : FVec Ideal S256x512 .bf16)

theorem scoreR_apply (b : Fin 2) (h : Fin 4) (i j : Fin 4096) : scoreR x q k (ix4 b h i j)
    = (∑ e : Fin 64, (∑ l : Fin 512, x (ix3 b i l) * q (ix2 l ⟨h.val * 64 + e.val, by omega⟩)) * k (ix4 b j h e)) * Ideal.ofBits .f32 0x3E000000#32 := by
  pointwise [scoreR]

/-- The floor division of one position by 64, as the host spells it. -/
def flrH (w : BitVec 32) : BitVec 32 :=
  Scalar.select
    (IntOp.andi
      (IntOp.cmpi CmpIPredicate.ne (if w = 0 then (0 : BitVec 32) else if w.msb = true then -1 else 1)
        (if 64#32 = 0 then (0 : BitVec 32) else if (64#32).msb = true then -1 else 1))
      (IntOp.cmpi CmpIPredicate.ne (IntOp.remsi ArithUnit.host w 64#32) 0#32))
    (IntOp.subi (IntOp.divsi ArithUnit.host w 64#32) 1#32)
    (IntOp.divsi ArithUnit.host w 64#32)

theorem flrH_eq : ∀ i : Fin 4096, flrH (BitVec.ofNat 32 i.val) = BitVec.ofNat 32 (i.val / 64) := by decide +kernel
theorem sleH_eq : ∀ a b : Fin 64, IntOp.cmpi CmpIPredicate.sle (BitVec.ofNat 32 a.val) (BitVec.ofNat 32 b.val) = if a.val ≤ b.val then 1#1 else 0#1 := by
  decide +kernel

theorem blockOf_apply (i : Fin 4096) : blockOf (ix1 i) = BitVec.ofNat 32 (i.val / 64) := by
  pointwise [blockOf]
  exact flrH_eq i

theorem neg_inf : Ideal.ofBits .f32 0xFF800000#32 = ⊥ := by simp [Ideal.ofBits, Ideal.ieee]

theorem maskR_apply (b : Fin 2) (h : Fin 4) (i j : Fin 4096) : maskR (ix4 b h i j) = if j.val / 64 ≤ i.val / 64 then 1#1 else 0#1 := by
  pointwise [maskR]
  rw [blockOf_apply, blockOf_apply]
  exact sleH_eq ⟨j.val / 64, by omega⟩ ⟨i.val / 64, by omega⟩

theorem selR_apply (b : Fin 2) (h : Fin 4) (i j : Fin 4096) :
    selR x q k (ix4 b h i j) = if j.val / 64 ≤ i.val / 64 then scoreR x q k (ix4 b h i j) else ⊥ := by
  pointwise [selR]
  rw [maskR_apply, show (id (constant S_ FTy.f32 0xFF800000#32) ix0 : Ideal .f32) = ⊥ from neg_inf]
  by_cases hv : j.val / 64 ≤ i.val / 64
  · rw [if_pos hv, if_pos hv]; rfl
  · rw [if_neg hv, if_neg hv]; rfl

variable (s w : FVec Ideal S2x4x4096x4096 .f32)

theorem maxR_apply (b : Fin 2) (h : Fin 4) (i : Fin 4096) :
    maxR s (ix3 b h i) = Finset.univ.fold max ⊥ (fun j : Fin 4096 => s (ix4 b h i j)) := by
  pointwise [maxR]
  rw [neg_inf]

theorem expR_apply (b : Fin 2) (h : Fin 4) (i j : Fin 4096) :
    expR s (ix4 b h i j) = Ideal.exp (s (ix4 b h i j) - maxR s (ix3 b h i)) := by
  pointwise [expR]

theorem divR_apply (b : Fin 2) (h : Fin 4) (i j : Fin 4096) :
    divR w (ix4 b h i j) = Ideal.div (w (ix4 b h i j)) (∑ j : Fin 4096, w (ix4 b h i j)) := by
  pointwise [divR]

theorem outR_apply (b : Fin 2) (i : Fin 4096) (n : Fin 512) :
    outR v o w (ix3 b i n)
      = ∑ k : Fin 256, (∑ j : Fin 4096, v (ix4 b j ⟨k.val / 64, by omega⟩ ⟨k.val % 64, by omega⟩) * w (ix4 b ⟨k.val / 64, by omega⟩ i j)) * o (ix2 k n) := by
  pointwise [outR]

end Cert.RingRef

end
-- ==== Proof.Attend.lean ====
/-
# The kernel's rows are the reference's

Row `i` of device `c` is row `256 c + i` of the whole array, and key `j` of device `d` is key `256 d + j`. With real
queries and keys every score is real, so the row equation applies: the kernel's quotient of sums is the reference's sum of
quotients, whatever the values and the output weights are.
-/
module

public import proofs.«01_k».proof.Proof.Sums
public import proofs.«01_k».proof.Proof.Softmax
public import proofs.«01_k».proof.Proof.Ref

@[expose] public section

noncomputable section

namespace Cert.RingAttn

open Idealize.ShloMosaic
open Idealize.ShloMosaic.TcCoe
open Cert.KernelIdeal (nD τ sig S2x256x512 S512x256 S2x256x4x64 S256x512 S8x256x64 S8x256x1)
open Cert.ReferenceIdeal (S2x4096x512 S2x4096x4x64)
open Cert.RingRef
open scoped BigOperators

/-- Where row `i` of device `d` stands in the whole array. -/
def pos (d : Dev nD) (i : Fin 256) : Fin 4096 := ⟨d.val * 256 + i.val, by have : d.val < 16 := d.isLt; omega⟩

theorem pos_surj (I : Fin 4096) : ∃ (d : Dev nD) (i : Fin 256), pos d i = I :=
  ⟨⟨I.val / 256, by show I.val / 256 < 16; omega⟩, ⟨I.val % 256, by omega⟩, Fin.ext (by show I.val / 256 * 256 + I.val % 256 = I.val; omega)⟩

/-- A sum over all positions, device by device. -/
theorem sum_pos (f : Fin 4096 → EReal) : ∑ J, f J = ∑ d : Dev nD, ∑ j : Fin 256, f (pos d j) := by
  rw [← Fintype.sum_prod_type' (f := fun (d : Dev nD) (j : Fin 256) => f (pos d j))]
  refine (Function.Bijective.sum_comp (e := fun p : Dev nD × Fin 256 => pos p.1 p.2) ⟨?_, ?_⟩ f).symm
  · rintro ⟨d, j⟩ ⟨d', j'⟩ h
    have h' : d.val * 256 + j.val = d'.val * 256 + j'.val := congrArg Fin.val h
    have e1 : d = d' := Fin.ext (by omega)
    have e2 : j = j' := Fin.ext (by omega)
    rw [e1, e2]
  · intro I
    obtain ⟨d, i, h⟩ := pos_surj I
    exact ⟨(d, i), h⟩

/-- The devices' masks together are the whole mask. -/
theorem sees_pos (c d : Dev nD) (i j : Fin 256) : sees c d i j ↔ (pos d j).val / 64 ≤ (pos c i).val / 64 := by
  show d.val < c.val ∨ (d.val = c.val ∧ j.val / 64 ≤ i.val / 64) ↔ (d.val * 256 + j.val) / 64 ≤ (c.val * 256 + i.val) / 64
  omega

theorem scale_real : ∃ g : ℝ, scale = (g : EReal) := by
  refine ⟨_, (EReal.coe_toReal ?_ ?_).symm⟩ <;> simp [scale, Ideal.ofBits, Ideal.ieee, -EReal.coe_mul]

theorem real_add_bias (s : ℝ) (p : Prop) [Decidable p] : (s : EReal) + (if p then 0 else ⊥) = masked p s := by
  unfold masked
  split
  · exact add_zero _
  · exact EReal.add_bot _

variable (m : (ℓ : Loc nD τ sig) → Buf (Elt Ideal) ℓ)
variable (x : FVec Ideal S2x4096x512 .bf16) (q : FVec Ideal S512x256 .bf16) (k v : FVec Ideal S2x4096x4x64 .bf16) (o : FVec Ideal S256x512 .bf16)

/-- Every device holds its rows of the whole arrays, and both weights whole. -/
structure Parts : Prop where
  hX : ∀ d b i l, argX m d (ix3 b i l) = x (ix3 b (pos d i) l)
  hQ : ∀ d, argQ m d = q
  hK : ∀ d b j h e, argK m d (ix4 b j h e) = k (ix4 b (pos d j) h e)
  hV : ∀ d b j h e, argV m d (ix4 b j h e) = v (ix4 b (pos d j) h e)
  hO : ∀ d, argO m d = o

/-- The queries' inputs and the keys are real. -/
structure Reals : Prop where
  fx : ∀ b I l, ∃ r : ℝ, x (ix3 b I l) = (r : EReal)
  fq : ∀ l n, ∃ r : ℝ, q (ix2 l n) = (r : EReal)
  fk : ∀ b J h e, ∃ r : ℝ, k (ix4 b J h e) = (r : EReal)

variable {m x q k v o}

/-- The scores are real, and both programs have the same ones. -/
theorem scores (hp : Parts m x q k v o) (hr : Reals x q k) (c : Dev nD) (b : Fin 2) (h : Fin 4) (i : Fin 256) :
    ∃ s : Fin 4096 → ℝ, (∀ J, scoreR x q k (ix4 b h (pos c i) J) = (s J : EReal))
      ∧ ∀ (r : Fin 8) (_ : r.val / 4 = b.val) (_ : r.val % 4 = h.val) (d : Dev nD) (j : Fin 256),
        ∑ e : Fin 64, qv m c (ix3 r i e) * argK m d (ix4 ⟨r.val / 4, by omega⟩ j ⟨r.val % 4, by omega⟩ e) = (s (pos d j) : EReal) := by
  choose xr hxr using hr.fx
  choose qr hqr using hr.fq
  choose kr hkr using hr.fk
  obtain ⟨g, hg⟩ := scale_real
  refine ⟨fun J => (∑ e : Fin 64, (∑ l : Fin 512, xr b (pos c i) l * qr l ⟨h.val * 64 + e.val, by omega⟩) * kr b J h e) * g, fun J => ?_, ?_⟩
  · rw [scoreR_apply, show Ideal.ofBits .f32 0x3E000000#32 = (g : EReal) from hg]
    simp only [hxr, hqr, hkr, ← EReal.coe_mul, coe_sum]
  · intro r h1 h2 d j
    have e1 : (⟨r.val / 4, by omega⟩ : Fin 2) = b := Fin.ext h1
    have e2 : (⟨r.val % 4, by omega⟩ : Fin 4) = h := Fin.ext h2
    have e3 : ∀ e : Fin 64, (⟨r.val % 4 * 64 + e.val, by omega⟩ : Fin 256) = ⟨h.val * 64 + e.val, by omega⟩ :=
      fun e => Fin.ext (by show r.val % 4 * 64 + e.val = h.val * 64 + e.val; rw [h2])
    simp only [qv_apply, e1, e2, e3, hp.hX, hp.hQ, hp.hK, hg, hxr, hqr, hkr, ← EReal.coe_mul, coe_sum]
    rw [Finset.sum_mul]
    refine congrArg _ (Finset.sum_congr rfl fun e _ => ?_)
    ring

/-- One entry of the attention. -/
theorem att_eq (hp : Parts m x q k v o) (hr : Reals x q k) (c : Dev nD) (b : Fin 2) (i : Fin 256) (h : Fin 4) (e : Fin 64) :
    att m c b i h e = ∑ J : Fin 4096, v (ix4 b J h e) * divR (expR (selR x q k)) (ix4 b h (pos c i) J) := by
  obtain ⟨s, hs, hw⟩ := scores hp hr c b h i
  have h1 : (b.val * 4 + h.val) / 4 = b.val := by omega
  have h2 : (b.val * 4 + h.val) % 4 = h.val := by omega
  have e1 : (⟨(b.val * 4 + h.val) / 4, by omega⟩ : Fin 2) = b := Fin.ext h1
  have e2 : (⟨(b.val * 4 + h.val) % 4, by omega⟩ : Fin 4) = h := Fin.ext h2
  have hwgt : ∀ d j, wgt m c d ⟨b.val * 4 + h.val, by omega⟩ i j
      = Ideal.exp (masked ((pos d j).val / 64 ≤ (pos c i).val / 64) (s (pos d j))) := by
    intro d j
    unfold wgt
    rw [hw ⟨b.val * 4 + h.val, by omega⟩ h1 h2 d j, real_add_bias]
    congr 1
    unfold masked
    exact if_congr (sees_pos c d i j) rfl rfl
  have hsel : ∀ J, selR x q k (ix4 b h (pos c i) J) = masked (J.val / 64 ≤ (pos c i).val / 64) (s J) := by
    intro J
    rw [selR_apply, hs]
    rfl
  have hvis : ∃ J : Fin 4096, J.val / 64 ≤ (pos c i).val / 64 := ⟨pos c i, le_refl _⟩
  obtain ⟨M, hM⟩ := max_real (fun J : Fin 4096 => J.val / 64 ≤ (pos c i).val / 64) s hvis
  unfold att
  rw [num8_apply, den8_apply]
  unfold addN addD
  simp only [hwgt, e1, e2, hp.hV]
  rw [← sum_pos (fun J => Ideal.exp (masked (J.val / 64 ≤ (pos c i).val / 64) (s J)) * v (ix4 b J h e)),
    ← sum_pos (fun J => Ideal.exp (masked (J.val / 64 ≤ (pos c i).val / 64) (s J))), row _ s _ hvis M]
  simp only [divR_apply, expR_apply, maxR_apply, hsel, hM]

/-- One entry of the result. -/
theorem out_eq (hp : Parts m x q k v o) (hr : Reals x q k) (c : Dev nD) (b : Fin 2) (i : Fin 256) (n : Fin 512) :
    outAt m c (ix3 b i n) = outR v o (divR (expR (selR x q k))) (ix3 b (pos c i) n) := by
  rw [outAt_apply, outR_apply]
  simp only [att_eq hp hr, hp.hO]

end Cert.RingAttn

end
-- ==== Proof.Value.lean ====
/-
# The value claim

The precondition says of each device's blocks that the queries' inputs and the keys are finite; the blocks are the whole
arrays', so those are real. Device `c` then ends with its rows of the reference's result.
-/
module

public import proofs.«01_k».proof.Proof.Attend
public import proofs.«01_k».proof.Proof.Launch
public import proofs.«01_k».proof.Defs
public import Idealize.ShloMosaic.Lib.ReduceAll
public import Idealize.ShloMosaic.Lib.Layout

@[expose] public section

noncomputable section

/-! ## The precondition's side conditions -/

instance Cert.Pre_finite_KernelIdeal.side : Cert.Pre_finite_KernelIdeal.Facts where
  bcast_S_S2x256x512 := by decide
  reducesTo_S2x256x512_S_d0_1_2 := by decide
  h_S_ := by decide
  bcast_S_S512x256 := by decide
  reducesTo_S512x256_S_d0_1 := by decide
  bcast_S_S2x256x4x64 := by decide
  reducesTo_S2x256x4x64_S_d0_1_2_3 := by decide

instance Cert.Pre_finite_ReferenceIdeal.side : Cert.Pre_finite_ReferenceIdeal.Facts where
  bcast_S_S2x4096x512 := by decide
  reducesTo_S2x4096x512_S_d0_1_2 := by decide
  h_S_ := by decide
  bcast_S_S512x256 := by decide
  reducesTo_S512x256_S_d0_1 := by decide
  bcast_S_S2x4096x4x64 := by decide
  reducesTo_S2x4096x4x64_S_d0_1_2_3 := by decide

namespace Cert.RingAttn

open Idealize.ShloMosaic Idealize.SL.Sem
open Idealize.ShloMosaic.TcCoe
open Cert.KernelIdeal (nD τ sig S2x256x512 S512x256 S2x256x4x64 S256x512 main_v1 win0_5 cfg0)
open Cert.ReferenceIdeal (S2x4096x512 S2x4096x4x64)
open Cert.RingRef

theorem pos_inf : Ideal.ofBits .bf16 0x7F80#16 = ⊤ := by simp [Ideal.ofBits, Ideal.ieee]

/-- A number whose absolute value is below infinity is real. -/
theorem real_of_lt (a : EReal) (h : Ideal.cmp .olt (max a (-a)) (Ideal.ofBits .bf16 0x7F80#16) = 1#1) : ∃ r : ℝ, a = (r : EReal) := by
  rw [pos_inf] at h
  have hlt : max a (-a) < ⊤ := by
    by_contra hn
    simp [Ideal.cmp, hn] at h
  rw [max_lt_iff] at hlt
  refine ⟨_, (EReal.coe_toReal hlt.1.ne ?_).symm⟩
  rintro rfl
  exact absurd hlt.2 (by simp)

variable (m : (ℓ : Loc nD τ sig) → Buf (Elt Ideal) ℓ)

instance : Subsingleton (Cert.Pre_finite_KernelIdeal.S_).Idx := ⟨fun _ _ => funext fun a => a.elim0⟩

/-- The precondition, one device: its rows of the queries' inputs, the query weights and its keys are real. -/
theorem real_blocks (h : Cert.Pre_KernelIdeal_finite_KernelIdeal m) (c : Dev nD) :
    (∀ i, ∃ r : ℝ, argX m c i = (r : EReal)) ∧ (∀ i, ∃ r : ℝ, argQ m c i = (r : EReal)) ∧ ∀ i, ∃ r : ℝ, argK m c i = (r : EReal) := by
  have hc := congrFun (h c) ix0
  dsimp only [Cert.Pre_finite_KernelIdeal.fn] at hc
  obtain ⟨hxq, hk⟩ := IntOp.andi_eq_one.1 hc
  obtain ⟨hx, hq⟩ := IntOp.andi_eq_one.1 hxq
  exact ⟨fun i => real_of_lt _ (Host.reduce_andi_all _ _ _ _ _ hx i), fun i => real_of_lt _ (Host.reduce_andi_all _ _ _ _ _ hq i),
    fun i => real_of_lt _ (Host.reduce_andi_all _ _ _ _ _ hk i)⟩

/-! ## Blocks -/

theorem block3 {α : Type} (v : S2x4096x512.Idx → α) (c : Fin 16) (b : Fin 2) (i : Fin 256) (l : Fin 512)
    (hT : Layout.Tiles ⟨3, ![2, 256, 512]⟩ ⟨3, ![2, 4096, 512]⟩ 1 16) :
    Layout.block ⟨3, ![2, 256, 512]⟩ ⟨3, ![2, 4096, 512]⟩ 1 16 c v hT (ix3 b i l) = v (ix3 b (pos c i) l) := by
  rw [Layout.block_apply]
  refine congrArg v (funext fun a => Fin.ext ?_)
  fin_cases a <;> rfl

theorem block4 {α : Type} (v : S2x4096x4x64.Idx → α) (c : Fin 16) (b : Fin 2) (i : Fin 256) (h : Fin 4) (e : Fin 64)
    (hT : Layout.Tiles ⟨4, ![2, 256, 4, 64]⟩ ⟨4, ![2, 4096, 4, 64]⟩ 1 16) :
    Layout.block ⟨4, ![2, 256, 4, 64]⟩ ⟨4, ![2, 4096, 4, 64]⟩ 1 16 c v hT (ix4 b i h e) = v (ix4 b (pos c i) h e) := by
  rw [Layout.block_apply]
  refine congrArg v (funext fun a => Fin.ext ?_)
  fin_cases a <;> rfl

/-! ## The kernel's result array -/

theorem finalA_out (ρ : Dev nD → PrngReg) (c : Dev nD) : finalA m ρ c 5 = outAt m c := by
  have h : (win0_5.blk (0 : Fin 1)).view.read (Elt Ideal) (finalA m ρ c (5 : Fin 6)) = outAt m c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  rw [← h]
  exact (Memref.read_access_unit_zero (Elt Ideal) main_v1 (funext fun a => by fin_cases a <;> decide) (fun a => by fin_cases a <;> decide) _).symm

/-- The idealized kernel computes the reference's result, each device its rows. -/
theorem algebraic : Cert.algebraic_KernelIdeal_ReferenceIdeal_pre_finite_KernelIdeal := by
  intro m ρ m' ρ' hpre hag
  have hp : Parts m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { hX := fun d b i l => (congrFun (hag d).1 _).trans (block3 _ d b i l _)
      hQ := fun d => (hag d).2.1
      hK := fun d b j h e => (congrFun (hag d).2.2.1 _).trans (block4 _ d b j h e _)
      hV := fun d b j h e => (congrFun (hag d).2.2.2.1 _).trans (block4 _ d b j h e _)
      hO := fun d => (hag d).2.2.2.2 }
  have hr : Reals (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    { fx := fun b I l => by
        obtain ⟨d, i, rfl⟩ := pos_surj I
        rw [← hp.hX]
        exact (real_blocks m hpre d).1 _
      fq := fun l n => by
        rw [← hp.hQ 0]
        exact (real_blocks m hpre 0).2.1 _
      fk := fun b J h e => by
        obtain ⟨d, j, rfl⟩ := pos_surj J
        rw [← hp.hK]
        exact (real_blocks m hpre d).2.2 _ }
  refine ⟨Cert.ReferenceIdeal.Value.res_main_v33 m' 0, ?_, ?_⟩
  · refine (θ_run _ _ _).mono (fun _ h c => ⟨((h.1 c 5).trans (finalA_out m ρ c)).trans ?_, (h.1 c 0).trans (finalA_in m ρ c 0 rfl),
      (h.1 c 1).trans (finalA_in m ρ c 1 rfl), (h.1 c 2).trans (finalA_in m ρ c 2 rfl), (h.1 c 3).trans (finalA_in m ρ c 3 rfl),
      (h.1 c 4).trans (finalA_in m ρ c 4 rfl)⟩) (run_main (F := Ideal) m ρ)
    rw [result_eq]
    refine funext fun (j : S2x256x512.Idx) => ?_
    obtain ⟨b, i, n, rfl⟩ : ∃ b i n, j = ix3 b i n := ⟨_, _, _, eq_ix3 j⟩
    exact (out_eq hp hr c b i n).trans (block3 _ c b i n _).symm
  · exact (θ_run _ _ _).mono (fun _ h => h 0) (Cert.ReferenceIdeal.Value.run (F := Ideal) m' ρ')

end Cert.RingAttn

end
-- ==== Proof.lean ====
/-
# The certificate

The kernel's run is written once, over any float values, in Proof/Launch.lean; the printed kernel takes it over the bits
(Proof/Same.lean), its idealization over the extended reals. The reference runs on one device, with no semaphore. That the
two compute the same is Proof/Value.lean.
-/
module

public import proofs.«01_k».proof.Defs
public import proofs.«01_k».proof.Proof.Same
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference declares no semaphore. -/
theorem no_semaphore (s : SemLoc Cert.ReferenceIdeal.sig) : False := by
  rcases s with s | s
  · exact Nat.not_lt_zero _ s.isLt
  · exact Nat.not_lt_zero _ s.isLt

theorem frame_reference : Cert.quiescent_ReferenceIdeal := fun m ρ _ =>
  (θ_run Cert.ReferenceIdeal.defs _ _).mono (fun _ h => ⟨fun c => (h c).2, funext fun g => (no_semaphore g.2).elim⟩)
    (Cert.ReferenceIdeal.Value.run (F := Ideal) m ρ)

theorem claim : Cert.Claim := ⟨Cert.Kernel.Gen.facts, Cert.KernelIdeal.Gen.facts, Cert.ReferenceIdeal.Gen.facts,
  Cert.Pre_finite_KernelIdeal.side, Cert.Pre_finite_ReferenceIdeal.side,
  Cert.RingAttn.frame_kernel, Cert.RingAttn.frame_ideal, fun m ρ _ => Cert.RingAttn.frame_ideal m ρ trivial,
  frame_reference, fun m ρ _ => frame_reference m ρ trivial,
  IdealRules.named_const.statement Cert.KernelIdeal.κ "mask" .f32 0xCE6E6B28#32 ⊥ rfl, Cert.RingAttn.algebraic⟩

end Cert.Proof

end
